-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x4096x2560 : Shape := ⟨3, ![3, 4096, 2560]⟩
abbrev S2560x2560 : Shape := ⟨2, ![2560, 2560]⟩
abbrev S20x5120 : Shape := ⟨2, ![20, 5120]⟩
abbrev S5120 : Shape := ⟨1, ![5120]⟩
abbrev S3x4096x20x128 : Shape := ⟨4, ![3, 4096, 20, 128]⟩
abbrev S_ : Shape := ⟨0, ![]⟩
abbrev S3x4096x20 : Shape := ⟨3, ![3, 4096, 20]⟩

class Facts : Prop where
  bitsLt_bf16_f32 : FTy.bits .bf16 < FTy.bits .f32
  shapeCasts_S3x4096x2560_S3x4096x20x128 : S3x4096x2560.ShapeCasts S3x4096x20x128
  reducesTo_S3x4096x20x128_S3x4096x20_d3 : S3x4096x20x128.ReducesTo [3] S3x4096x20
  h_S_ : 0 < S_.numel
  bcast_S_S3x4096x20 : S_.BroadcastsInDim S3x4096x20 (![] : Fin 0 → Fin S3x4096x20.rank)

variable [Facts]

def fn {F : FTy → Type} [FloatOps F] (main_arg0 : FVec F S3x4096x2560 .bf16) (main_arg1 : IVec S2560x2560 8) (main_arg2 : FVec F S20x5120 .f32) (main_arg3 : FVec F S5120 .f32) : IVec S3x4096x20 1 :=
  let main_v0 : FVec F S3x4096x2560 .f32 := (extf .f32 · bitsLt_bf16_f32) main_arg0
  let main_v1 : FVec F S3x4096x20x128 .f32 := shapeCast S3x4096x20x128 main_v0 shapeCasts_S3x4096x2560_S3x4096x20x128
  let main_v2 : FVec F S3x4096x20x128 .f32 := Host.absf main_v1
  let main_cst : FVec F S_ .f32 := constant S_ .f32 0xFF800000#32
  let main_v3 : FVec F S3x4096x20 .f32 := (fun x v => Host.reduce FloatOps.maximumf x v reducesTo_S3x4096x20x128_S3x4096x20_d3 h_S_) main_v2 main_cst
  let main_cst_0 : FVec F S_ .f32 := constant S_ .f32 0x00000000#32
  let main_v4 : FVec F S3x4096x20 .f32 := broadcastInDim S3x4096x20 ![] bcast_S_S3x4096x20 main_cst_0
  let main_v5 : IVec S3x4096x20 1 := cmpf .oeq main_v3 main_v4
  let main_cst_1 : FVec F S_ .f32 := constant S_ .f32 0x3B124925#32
  let main_v6 : FVec F S3x4096x20 .f32 := broadcastInDim S3x4096x20 ![] bcast_S_S3x4096x20 main_cst_1
  let main_v7 : FVec F S3x4096x20 .f32 := mulf main_v3 main_v6
  let main_cst_2 : FVec F S_ .f32 := constant S_ .f32 0x00800000#32
  let main_v8 : FVec F S3x4096x20 .f32 := broadcastInDim S3x4096x20 ![] bcast_S_S3x4096x20 main_cst_2
  let main_v9 : IVec S3x4096x20 1 := cmpf .oge main_v7 main_v8
  let main_cst_3 : FVec F S_ .f32 := constant S_ .f32 0x7F7F0000#32
  let main_v10 : FVec F S3x4096x20 .f32 := broadcastInDim S3x4096x20 ![] bcast_S_S3x4096x20 main_cst_3
  let main_v11 : IVec S3x4096x20 1 := cmpf .ole main_v3 main_v10
  let main_v12 : IVec S3x4096x20 1 := andi main_v9 main_v11
  let main_v13 : IVec S3x4096x20 1 := ori main_v5 main_v12
  main_v13
-- ==== Kernel.lean ====
abbrev S3x4096x2560 : Shape := ⟨3, ![3, 4096, 2560]⟩
abbrev S2560x2560 : Shape := ⟨2, ![2560, 2560]⟩
abbrev S20x5120 : Shape := ⟨2, ![20, 5120]⟩
abbrev S5120 : Shape := ⟨1, ![5120]⟩
abbrev S12288x2560 : Shape := ⟨2, ![12288, 2560]⟩
abbrev S1x5120 : Shape := ⟨2, ![1, 5120]⟩
abbrev S12288x5120 : Shape := ⟨2, ![12288, 5120]⟩
abbrev S12288x20 : Shape := ⟨2, ![12288, 20]⟩
abbrev S512x2560 : Shape := ⟨2, ![512, 2560]⟩
abbrev S512x5120 : Shape := ⟨2, ![512, 5120]⟩
abbrev S512x20 : Shape := ⟨2, ![512, 20]⟩
abbrev S2560x5120 : Shape := ⟨2, ![2560, 5120]⟩
abbrev S128x256 : Shape := ⟨2, ![128, 256]⟩
abbrev S32x256 : Shape := ⟨2, ![32, 256]⟩
abbrev S1x256 : Shape := ⟨2, ![1, 256]⟩
abbrev S128x128 : Shape := ⟨2, ![128, 128]⟩
abbrev S128 : Shape := ⟨1, ![128]⟩
abbrev S128x1 : Shape := ⟨2, ![128, 1]⟩
abbrev S128x20 : Shape := ⟨2, ![128, 20]⟩

abbrev nBuf : Space → Nat
  | .hbm => 9
  | .vmem => 14
  | .smem => 0
  | _ => 0

abbrev bufTy : (tb : Table) → Fin (tcTables nBuf tb) → BufTy
  | .hbm, ⟨0, _⟩ => ⟨S3x4096x2560, .bf16⟩
  | .hbm, ⟨1, _⟩ => ⟨S2560x2560, .i8⟩
  | .hbm, ⟨2, _⟩ => ⟨S20x5120, .f32⟩
  | .hbm, ⟨3, _⟩ => ⟨S5120, .f32⟩
  | .hbm, ⟨4, _⟩ => ⟨S12288x2560, .bf16⟩
  | .hbm, ⟨5, _⟩ => ⟨S1x5120, .f32⟩
  | .hbm, ⟨6, _⟩ => ⟨S12288x5120, .bf16⟩
  | .hbm, ⟨7, _⟩ => ⟨S12288x2560, .fp8e4m3⟩
  | .hbm, ⟨8, _⟩ => ⟨S12288x20, .f32⟩
  | .local _ .vmem, ⟨0, _⟩ => ⟨S512x2560, .bf16⟩
  | .local _ .vmem, ⟨1, _⟩ => ⟨S512x2560, .bf16⟩
  | .local _ .vmem, ⟨2, _⟩ => ⟨S2560x2560, .i8⟩
  | .local _ .vmem, ⟨3, _⟩ => ⟨S20x5120, .f32⟩
  | .local _ .vmem, ⟨4, _⟩ => ⟨S1x5120, .f32⟩
  | .local _ .vmem, ⟨5, _⟩ => ⟨S512x5120, .bf16⟩
  | .local _ .vmem, ⟨6, _⟩ => ⟨S512x5120, .bf16⟩
  | .local _ .vmem, ⟨7, _⟩ => ⟨S512x2560, .fp8e4m3⟩
  | .local _ .vmem, ⟨8, _⟩ => ⟨S512x2560, .fp8e4m3⟩
  | .local _ .vmem, ⟨9, _⟩ => ⟨S512x20, .f32⟩
  | .local _ .vmem, ⟨10, _⟩ => ⟨S512x20, .f32⟩
  | .local _ .vmem, ⟨11, _⟩ => ⟨S2560x5120, .bf16⟩
  | .local _ .vmem, ⟨12, _⟩ => ⟨S512x2560, .bf16⟩
  | .local _ .vmem, ⟨13, _⟩ => ⟨S512x2560, .bf16⟩
  | _, _ => ⟨S3x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c10_i32 : BitVec 32 := 10#32
  let v33 : BitVec 32 := Scalar.addi c0_i32_17 c10_i32
  let c1_i32_18 : BitVec 32 := 1#32
  ⟨c0_i32_17, v33, c1_i32_18⟩
def k0_mult1 (k0_t1 : Fin k0_t1_loop.trips) : BitVec 32 :=
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  v4052
def k0_mult2 (k0_t1 : Fin k0_t1_loop.trips) : BitVec 32 :=
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  v4055
def k0_off1 (k0_t1 : Fin k0_t1_loop.trips) : Fin 2 → Nat :=
  let c0_1515 : Index := 0#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4057 : Index := Scalar.indexCast v4053
  ![0, v4057.toNat]
def k0_off2 (k0_t1 : Fin k0_t1_loop.trips) : Fin 2 → Nat :=
  let c0_1520 : Index := 0#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4074 : Index := Scalar.indexCast v4053
  ![0, v4074.toNat]
def k0_off3 (k0_t1 : Fin k0_t1_loop.trips) : Fin 2 → Nat :=
  let c0_1521 : Index := 0#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4079 : Index := Scalar.indexCast v4053
  ![0, v4079.toNat]
def k0_off4 (k0_t1 : Fin k0_t1_loop.trips) : Fin 2 → Nat :=
  let c0_1523 : Index := 0#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4087 : Index := Scalar.indexCast v4056
  ![0, v4087.toNat]
def k0_off5 (k0_t1 : Fin k0_t1_loop.trips) : Fin 2 → Nat :=
  let c0_1524 : Index := 0#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4092 : Index := Scalar.indexCast v4056
  ![0, v4092.toNat]
def k0_off6 (k0_t1 : Fin k0_t1_loop.trips) : Fin 2 → Nat :=
  let c128_1525 : Index := 128#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4096 : Index := Scalar.indexCast v4053
  ![128, v4096.toNat]
def k0_off7 (k0_t1 : Fin k0_t1_loop.trips) : Fin 2 → Nat :=
  let c1 : Index := 1#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4113 : Index := Scalar.indexCast v4053
  ![1, v4113.toNat]
def k0_off8 (k0_t1 : Fin k0_t1_loop.trips) : Fin 2 → Nat :=
  let c128_1532 : Index := 128#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4118 : Index := Scalar.indexCast v4053
  ![128, v4118.toNat]
def k0_off9 (k0_t1 : Fin k0_t1_loop.trips) : Fin 2 → Nat :=
  let c1_1534 : Index := 1#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4126 : Index := Scalar.indexCast v4056
  ![1, v4126.toNat]
def k0_off10 (k0_t1 : Fin k0_t1_loop.trips) : Fin 2 → Nat :=
  let c128_1535 : Index := 128#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4131 : Index := Scalar.indexCast v4056
  ![128, v4131.toNat]
def k0_off11 (k0_t1 : Fin k0_t1_loop.trips) : Fin 2 → Nat :=
  let c256_1536 : Index := 256#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4135 : Index := Scalar.indexCast v4053
  ![256, v4135.toNat]
def k0_off12 (k0_t1 : Fin k0_t1_loop.trips) : Fin 2 → Nat :=
  let c2 : Index := 2#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4152 : Index := Scalar.indexCast v4053
  ![2, v4152.toNat]
def k0_off13 (k0_t1 : Fin k0_t1_loop.trips) : Fin 2 → Nat :=
  let c256_1543 : Index := 256#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4157 : Index := Scalar.indexCast v4053
  ![256, v4157.toNat]
def k0_off14 (k0_t1 : Fin k0_t1_loop.trips) : Fin 2 → Nat :=
  let c2_1545 : Index := 2#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4165 : Index := Scalar.indexCast v4056
  ![2, v4165.toNat]
def k0_off15 (k0_t1 : Fin k0_t1_loop.trips) : Fin 2 → Nat :=
  let c256_1546 : Index := 256#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4170 : Index := Scalar.indexCast v4056
  ![256, v4170.toNat]
def k0_off16 (k0_t1 : Fin k0_t1_loop.trips) : Fin 2 → Nat :=
  let c384_1547 : Index := 384#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4174 : Index := Scalar.indexCast v4053
  ![384, v4174.toNat]
def k0_off17 (k0_t1 : Fin k0_t1_loop.trips) : Fin 2 → Nat :=
  let c3 : Index := 3#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4191 : Index := Scalar.indexCast v4053
  ![3, v4191.toNat]
def k0_off18 (k0_t1 : Fin k0_t1_loop.trips) : Fin 2 → Nat :=
  let c384_1554 : Index := 384#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4196 : Index := Scalar.indexCast v4053
  ![384, v4196.toNat]
def k0_off19 (k0_t1 : Fin k0_t1_loop.trips) : Fin 2 → Nat :=
  let c3_1556 : Index := 3#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4204 : Index := Scalar.indexCast v4056
  ![3, v4204.toNat]
def k0_off20 (k0_t1 : Fin k0_t1_loop.trips) : Fin 2 → Nat :=
  let c384_1557 : Index := 384#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4209 : Index := Scalar.indexCast v4056
  ![384, v4209.toNat]
def k0_off21 (k0_t1 : Fin k0_t1_loop.trips) : Fin 2 → Nat :=
  let c512_1558 : Index := 512#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4213 : Index := Scalar.indexCast v4053
  ![512, v4213.toNat]
def k0_off22 (k0_t1 : Fin k0_t1_loop.trips) : Fin 2 → Nat :=
  let c4 : Index := 4#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4230 : Index := Scalar.indexCast v4053
  ![4, v4230.toNat]
def k0_off23 (k0_t1 : Fin k0_t1_loop.trips) : Fin 2 → Nat :=
  let c512_1565 : Index := 512#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4235 : Index := Scalar.indexCast v4053
  ![512, v4235.toNat]
def k0_off24 (k0_t1 : Fin k0_t1_loop.trips) : Fin 2 → Nat :=
  let c4_1567 : Index := 4#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4243 : Index := Scalar.indexCast v4056
  ![4, v4243.toNat]
def k0_off25 (k0_t1 : Fin k0_t1_loop.trips) : Fin 2 → Nat :=
  let c512_1568 : Index := 512#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4248 : Index := Scalar.indexCast v4056
  ![512, v4248.toNat]
def k0_off26 (k0_t1 : Fin k0_t1_loop.trips) : Fin 2 → Nat :=
  let c640_1569 : Index := 640#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4252 : Index := Scalar.indexCast v4053
  ![640, v4252.toNat]
def k0_off27 (k0_t1 : Fin k0_t1_loop.trips) : Fin 2 → Nat :=
  let c5 : Index := 5#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4269 : Index := Scalar.indexCast v4053
  ![5, v4269.toNat]
def k0_off28 (k0_t1 : Fin k0_t1_loop.trips) : Fin 2 → Nat :=
  let c640_1576 : Index := 640#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4274 : Index := Scalar.indexCast v4053
  ![640, v4274.toNat]
def k0_off29 (k0_t1 : Fin k0_t1_loop.trips) : Fin 2 → Nat :=
  let c5_1578 : Index := 5#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4282 : Index := Scalar.indexCast v4056
  ![5, v4282.toNat]
def k0_off30 (k0_t1 : Fin k0_t1_loop.trips) : Fin 2 → Nat :=
  let c640_1579 : Index := 640#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4287 : Index := Scalar.indexCast v4056
  ![640, v4287.toNat]
def k0_off31 (k0_t1 : Fin k0_t1_loop.trips) : Fin 2 → Nat :=
  let c768_1580 : Index := 768#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4291 : Index := Scalar.indexCast v4053
  ![768, v4291.toNat]
def k0_off32 (k0_t1 : Fin k0_t1_loop.trips) : Fin 2 → Nat :=
  let c6 : Index := 6#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4308 : Index := Scalar.indexCast v4053
  ![6, v4308.toNat]
def k0_off33 (k0_t1 : Fin k0_t1_loop.trips) : Fin 2 → Nat :=
  let c768_1587 : Index := 768#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4313 : Index := Scalar.indexCast v4053
  ![768, v4313.toNat]
def k0_off34 (k0_t1 : Fin k0_t1_loop.trips) : Fin 2 → Nat :=
  let c6_1589 : Index := 6#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4321 : Index := Scalar.indexCast v4056
  ![6, v4321.toNat]
def k0_off35 (k0_t1 : Fin k0_t1_loop.trips) : Fin 2 → Nat :=
  let c768_1590 : Index := 768#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4326 : Index := Scalar.indexCast v4056
  ![768, v4326.toNat]
def k0_off36 (k0_t1 : Fin k0_t1_loop.trips) : Fin 2 → Nat :=
  let c896_1591 : Index := 896#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4330 : Index := Scalar.indexCast v4053
  ![896, v4330.toNat]
def k0_off37 (k0_t1 : Fin k0_t1_loop.trips) : Fin 2 → Nat :=
  let c7 : Index := 7#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4347 : Index := Scalar.indexCast v4053
  ![7, v4347.toNat]
def k0_off38 (k0_t1 : Fin k0_t1_loop.trips) : Fin 2 → Nat :=
  let c896_1598 : Index := 896#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4352 : Index := Scalar.indexCast v4053
  ![896, v4352.toNat]
def k0_off39 (k0_t1 : Fin k0_t1_loop.trips) : Fin 2 → Nat :=
  let c7_1600 : Index := 7#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4360 : Index := Scalar.indexCast v4056
  ![7, v4360.toNat]
def k0_off40 (k0_t1 : Fin k0_t1_loop.trips) : Fin 2 → Nat :=
  let c896_1601 : Index := 896#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4365 : Index := Scalar.indexCast v4056
  ![896, v4365.toNat]
def k0_off41 (k0_t1 : Fin k0_t1_loop.trips) : Fin 2 → Nat :=
  let c1024_1602 : Index := 1024#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4369 : Index := Scalar.indexCast v4053
  ![1024, v4369.toNat]
def k0_off42 (k0_t1 : Fin k0_t1_loop.trips) : Fin 2 → Nat :=
  let c8 : Index := 8#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4386 : Index := Scalar.indexCast v4053
  ![8, v4386.toNat]
def k0_off43 (k0_t1 : Fin k0_t1_loop.trips) : Fin 2 → Nat :=
  let c1024_1609 : Index := 1024#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4391 : Index := Scalar.indexCast v4053
  ![1024, v4391.toNat]
def k0_off44 (k0_t1 : Fin k0_t1_loop.trips) : Fin 2 → Nat :=
  let c8_1611 : Index := 8#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4399 : Index := Scalar.indexCast v4056
  ![8, v4399.toNat]
def k0_off45 (k0_t1 : Fin k0_t1_loop.trips) : Fin 2 → Nat :=
  let c1024_1612 : Index := 1024#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4404 : Index := Scalar.indexCast v4056
  ![1024, v4404.toNat]
def k0_off46 (k0_t1 : Fin k0_t1_loop.trips) : Fin 2 → Nat :=
  let c1152_1613 : Index := 1152#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4408 : Index := Scalar.indexCast v4053
  ![1152, v4408.toNat]
def k0_off47 (k0_t1 : Fin k0_t1_loop.trips) : Fin 2 → Nat :=
  let c9 : Index := 9#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4425 : Index := Scalar.indexCast v4053
  ![9, v4425.toNat]
def k0_off48 (k0_t1 : Fin k0_t1_loop.trips) : Fin 2 → Nat :=
  let c1152_1620 : Index := 1152#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4430 : Index := Scalar.indexCast v4053
  ![1152, v4430.toNat]
def k0_off49 (k0_t1 : Fin k0_t1_loop.trips) : Fin 2 → Nat :=
  let c9_1622 : Index := 9#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4438 : Index := Scalar.indexCast v4056
  ![9, v4438.toNat]
def k0_off50 (k0_t1 : Fin k0_t1_loop.trips) : Fin 2 → Nat :=
  let c1152_1623 : Index := 1152#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4443 : Index := Scalar.indexCast v4056
  ![1152, v4443.toNat]
def k0_off51 (k0_t1 : Fin k0_t1_loop.trips) : Fin 2 → Nat :=
  let c1280_1624 : Index := 1280#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4447 : Index := Scalar.indexCast v4053
  ![1280, v4447.toNat]
def k0_off52 (k0_t1 : Fin k0_t1_loop.trips) : Fin 2 → Nat :=
  let c10 : Index := 10#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4464 : Index := Scalar.indexCast v4053
  ![10, v4464.toNat]
def k0_off53 (k0_t1 : Fin k0_t1_loop.trips) : Fin 2 → Nat :=
  let c1280_1631 : Index := 1280#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4469 : Index := Scalar.indexCast v4053
  ![1280, v4469.toNat]
def k0_off54 (k0_t1 : Fin k0_t1_loop.trips) : Fin 2 → Nat :=
  let c10_1633 : Index := 10#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4477 : Index := Scalar.indexCast v4056
  ![10, v4477.toNat]
def k0_off55 (k0_t1 : Fin k0_t1_loop.trips) : Fin 2 → Nat :=
  let c1280_1634 : Index := 1280#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4482 : Index := Scalar.indexCast v4056
  ![1280, v4482.toNat]
def k0_off56 (k0_t1 : Fin k0_t1_loop.trips) : Fin 2 → Nat :=
  let c1408_1635 : Index := 1408#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4486 : Index := Scalar.indexCast v4053
  ![1408, v4486.toNat]
def k0_off57 (k0_t1 : Fin k0_t1_loop.trips) : Fin 2 → Nat :=
  let c11 : Index := 11#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4503 : Index := Scalar.indexCast v4053
  ![11, v4503.toNat]
def k0_off58 (k0_t1 : Fin k0_t1_loop.trips) : Fin 2 → Nat :=
  let c1408_1642 : Index := 1408#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4508 : Index := Scalar.indexCast v4053
  ![1408, v4508.toNat]
def k0_off59 (k0_t1 : Fin k0_t1_loop.trips) : Fin 2 → Nat :=
  let c11_1644 : Index := 11#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4516 : Index := Scalar.indexCast v4056
  ![11, v4516.toNat]
def k0_off60 (k0_t1 : Fin k0_t1_loop.trips) : Fin 2 → Nat :=
  let c1408_1645 : Index := 1408#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4521 : Index := Scalar.indexCast v4056
  ![1408, v4521.toNat]
def k0_off61 (k0_t1 : Fin k0_t1_loop.trips) : Fin 2 → Nat :=
  let c1536_1646 : Index := 1536#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4525 : Index := Scalar.indexCast v4053
  ![1536, v4525.toNat]
def k0_off62 (k0_t1 : Fin k0_t1_loop.trips) : Fin 2 → Nat :=
  let c12 : Index := 12#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4542 : Index := Scalar.indexCast v4053
  ![12, v4542.toNat]
def k0_off63 (k0_t1 : Fin k0_t1_loop.trips) : Fin 2 → Nat :=
  let c1536_1653 : Index := 1536#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4547 : Index := Scalar.indexCast v4053
  ![1536, v4547.toNat]
def k0_off64 (k0_t1 : Fin k0_t1_loop.trips) : Fin 2 → Nat :=
  let c12_1655 : Index := 12#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4555 : Index := Scalar.indexCast v4056
  ![12, v4555.toNat]
def k0_off65 (k0_t1 : Fin k0_t1_loop.trips) : Fin 2 → Nat :=
  let c1536_1656 : Index := 1536#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4560 : Index := Scalar.indexCast v4056
  ![1536, v4560.toNat]
def k0_off66 (k0_t1 : Fin k0_t1_loop.trips) : Fin 2 → Nat :=
  let c1664_1657 : Index := 1664#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4564 : Index := Scalar.indexCast v4053
  ![1664, v4564.toNat]
def k0_off67 (k0_t1 : Fin k0_t1_loop.trips) : Fin 2 → Nat :=
  let c13 : Index := 13#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4581 : Index := Scalar.indexCast v4053
  ![13, v4581.toNat]
def k0_off68 (k0_t1 : Fin k0_t1_loop.trips) : Fin 2 → Nat :=
  let c1664_1664 : Index := 1664#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4586 : Index := Scalar.indexCast v4053
  ![1664, v4586.toNat]
def k0_off69 (k0_t1 : Fin k0_t1_loop.trips) : Fin 2 → Nat :=
  let c13_1666 : Index := 13#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4594 : Index := Scalar.indexCast v4056
  ![13, v4594.toNat]
def k0_off70 (k0_t1 : Fin k0_t1_loop.trips) : Fin 2 → Nat :=
  let c1664_1667 : Index := 1664#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4599 : Index := Scalar.indexCast v4056
  ![1664, v4599.toNat]
def k0_off71 (k0_t1 : Fin k0_t1_loop.trips) : Fin 2 → Nat :=
  let c1792_1668 : Index := 1792#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4603 : Index := Scalar.indexCast v4053
  ![1792, v4603.toNat]
def k0_off72 (k0_t1 : Fin k0_t1_loop.trips) : Fin 2 → Nat :=
  let c14 : Index := 14#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4620 : Index := Scalar.indexCast v4053
  ![14, v4620.toNat]
def k0_off73 (k0_t1 : Fin k0_t1_loop.trips) : Fin 2 → Nat :=
  let c1792_1675 : Index := 1792#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4625 : Index := Scalar.indexCast v4053
  ![1792, v4625.toNat]
def k0_off74 (k0_t1 : Fin k0_t1_loop.trips) : Fin 2 → Nat :=
  let c14_1677 : Index := 14#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4633 : Index := Scalar.indexCast v4056
  ![14, v4633.toNat]
def k0_off75 (k0_t1 : Fin k0_t1_loop.trips) : Fin 2 → Nat :=
  let c1792_1678 : Index := 1792#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4638 : Index := Scalar.indexCast v4056
  ![1792, v4638.toNat]
def k0_off76 (k0_t1 : Fin k0_t1_loop.trips) : Fin 2 → Nat :=
  let c1920_1679 : Index := 1920#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4642 : Index := Scalar.indexCast v4053
  ![1920, v4642.toNat]
def k0_off77 (k0_t1 : Fin k0_t1_loop.trips) : Fin 2 → Nat :=
  let c15 : Index := 15#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4659 : Index := Scalar.indexCast v4053
  ![15, v4659.toNat]
def k0_off78 (k0_t1 : Fin k0_t1_loop.trips) : Fin 2 → Nat :=
  let c1920_1686 : Index := 1920#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4664 : Index := Scalar.indexCast v4053
  ![1920, v4664.toNat]
def k0_off79 (k0_t1 : Fin k0_t1_loop.trips) : Fin 2 → Nat :=
  let c15_1688 : Index := 15#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4672 : Index := Scalar.indexCast v4056
  ![15, v4672.toNat]
def k0_off80 (k0_t1 : Fin k0_t1_loop.trips) : Fin 2 → Nat :=
  let c1920_1689 : Index := 1920#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4677 : Index := Scalar.indexCast v4056
  ![1920, v4677.toNat]
def k0_off81 (k0_t1 : Fin k0_t1_loop.trips) : Fin 2 → Nat :=
  let c2048_1690 : Index := 2048#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4681 : Index := Scalar.indexCast v4053
  ![2048, v4681.toNat]
def k0_off82 (k0_t1 : Fin k0_t1_loop.trips) : Fin 2 → Nat :=
  let c16 : Index := 16#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4698 : Index := Scalar.indexCast v4053
  ![16, v4698.toNat]
def k0_off83 (k0_t1 : Fin k0_t1_loop.trips) : Fin 2 → Nat :=
  let c2048_1697 : Index := 2048#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4703 : Index := Scalar.indexCast v4053
  ![2048, v4703.toNat]
def k0_off84 (k0_t1 : Fin k0_t1_loop.trips) : Fin 2 → Nat :=
  let c16_1699 : Index := 16#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4711 : Index := Scalar.indexCast v4056
  ![16, v4711.toNat]
def k0_off85 (k0_t1 : Fin k0_t1_loop.trips) : Fin 2 → Nat :=
  let c2048_1700 : Index := 2048#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4716 : Index := Scalar.indexCast v4056
  ![2048, v4716.toNat]
def k0_off86 (k0_t1 : Fin k0_t1_loop.trips) : Fin 2 → Nat :=
  let c2176_1701 : Index := 2176#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4720 : Index := Scalar.indexCast v4053
  ![2176, v4720.toNat]
def k0_off87 (k0_t1 : Fin k0_t1_loop.trips) : Fin 2 → Nat :=
  let c17 : Index := 17#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4737 : Index := Scalar.indexCast v4053
  ![17, v4737.toNat]
def k0_off88 (k0_t1 : Fin k0_t1_loop.trips) : Fin 2 → Nat :=
  let c2176_1708 : Index := 2176#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4742 : Index := Scalar.indexCast v4053
  ![2176, v4742.toNat]
def k0_off89 (k0_t1 : Fin k0_t1_loop.trips) : Fin 2 → Nat :=
  let c17_1710 : Index := 17#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4750 : Index := Scalar.indexCast v4056
  ![17, v4750.toNat]
def k0_off90 (k0_t1 : Fin k0_t1_loop.trips) : Fin 2 → Nat :=
  let c2176_1711 : Index := 2176#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4755 : Index := Scalar.indexCast v4056
  ![2176, v4755.toNat]
def k0_off91 (k0_t1 : Fin k0_t1_loop.trips) : Fin 2 → Nat :=
  let c2304_1712 : Index := 2304#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4759 : Index := Scalar.indexCast v4053
  ![2304, v4759.toNat]
def k0_off92 (k0_t1 : Fin k0_t1_loop.trips) : Fin 2 → Nat :=
  let c18 : Index := 18#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4776 : Index := Scalar.indexCast v4053
  ![18, v4776.toNat]
def k0_off93 (k0_t1 : Fin k0_t1_loop.trips) : Fin 2 → Nat :=
  let c2304_1719 : Index := 2304#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4781 : Index := Scalar.indexCast v4053
  ![2304, v4781.toNat]
def k0_off94 (k0_t1 : Fin k0_t1_loop.trips) : Fin 2 → Nat :=
  let c18_1721 : Index := 18#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4789 : Index := Scalar.indexCast v4056
  ![18, v4789.toNat]
def k0_off95 (k0_t1 : Fin k0_t1_loop.trips) : Fin 2 → Nat :=
  let c2304_1722 : Index := 2304#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4794 : Index := Scalar.indexCast v4056
  ![2304, v4794.toNat]
def k0_off96 (k0_t1 : Fin k0_t1_loop.trips) : Fin 2 → Nat :=
  let c2432_1723 : Index := 2432#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4798 : Index := Scalar.indexCast v4053
  ![2432, v4798.toNat]
def k0_off97 (k0_t1 : Fin k0_t1_loop.trips) : Fin 2 → Nat :=
  let c19 : Index := 19#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4815 : Index := Scalar.indexCast v4053
  ![19, v4815.toNat]
def k0_off98 (k0_t1 : Fin k0_t1_loop.trips) : Fin 2 → Nat :=
  let c2432_1730 : Index := 2432#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32 : BitVec 32 := 256#32
  let v4052 : BitVec 32 := Scalar.muli v4051 c256_i32
  let v4053 : BitVec 32 := v4052
  let v4820 : Index := Scalar.indexCast v4053
  ![2432, v4820.toNat]
def k0_off99 (k0_t1 : Fin k0_t1_loop.trips) : Fin 2 → Nat :=
  let c19_1732 : Index := 19#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4828 : Index := Scalar.indexCast v4056
  ![19, v4828.toNat]
def k0_off100 (k0_t1 : Fin k0_t1_loop.trips) : Fin 2 → Nat :=
  let c2432_1733 : Index := 2432#32
  let c2560_i32 : BitVec 32 := 2560#32
  let c0_i32_1513 : BitVec 32 := 0#32
  let c0_i32_17 : BitVec 32 := 0#32
  let c1_i32_18 : BitVec 32 := 1#32
  let arg11 : BitVec 32 := Scf.iv c0_i32_17 c1_i32_18 k0_t1
  let c1_i32_1512 : BitVec 32 := 1#32
  let v4050 : BitVec 32 := Scalar.muli arg11 c1_i32_1512
  let v4051 : BitVec 32 := Scalar.addi c0_i32_1513 v4050
  let c256_i32_1514 : BitVec 32 := 256#32
  let v4054 : BitVec 32 := Scalar.muli v4051 c256_i32_1514
  let v4055 : BitVec 32 := Scalar.addi c2560_i32 v4054
  let v4056 : BitVec 32 := v4055
  let v4833 : Index := Scalar.indexCast v4056
  ![2432, v4833.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x4096x2560 : Shape := ⟨3, ![3, 4096, 2560]⟩
abbrev S2560x2560 : Shape := ⟨2, ![2560, 2560]⟩
abbrev S20x5120 : Shape := ⟨2, ![20, 5120]⟩
abbrev S5120 : Shape := ⟨1, ![5120]⟩
abbrev S12288x2560 : Shape := ⟨2, ![12288, 2560]⟩
abbrev S1x5120 : Shape := ⟨2, ![1, 5120]⟩
abbrev S12288x5120 : Shape := ⟨2, ![12288, 5120]⟩
abbrev S12288x20 : Shape := ⟨2, ![12288, 20]⟩
abbrev S12288x20x128 : Shape := ⟨3, ![12288, 20, 128]⟩
abbrev S12288x20x1 : Shape := ⟨3, ![12288, 20, 1]⟩
abbrev S20x2560 : Shape := ⟨2, ![20, 2560]⟩
abbrev S20x1x2560 : Shape := ⟨3, ![20, 1, 2560]⟩
abbrev S20x128x2560 : Shape := ⟨3, ![20, 128, 2560]⟩

abbrev nBuf : Space → Nat
  | .hbm => 9
  | .vmem => 7
  | .smem => 0
  | _ => 0

abbrev bufTy : (tb : Table) → Fin (tcTables nBuf tb) → BufTy
  | .hbm, ⟨0, _⟩ => ⟨S3x4096x2560, .bf16⟩
  | .hbm, ⟨1, _⟩ => ⟨S2560x2560, .i8⟩
  | .hbm, ⟨2, _⟩ => ⟨S20x5120, .f32⟩
  | .hbm, ⟨3, _⟩ => ⟨S5120, .f32⟩
  | .hbm, ⟨4, _⟩ => ⟨S12288x2560, .bf16⟩
  | .hbm, ⟨5, _⟩ => ⟨S1x5120, .f32⟩
  | .hbm, ⟨6, _⟩ => ⟨S12288x5120, .bf16⟩
  | .hbm, ⟨7, _⟩ => ⟨S12288x2560, .fp8e4m3⟩
  | .hbm, ⟨8, _⟩ => ⟨S12288x20, .f32⟩
  | .local _ .vmem, ⟨0, _⟩ => ⟨S12288x2560, .bf16⟩
  | .local _ .vmem, ⟨1, _⟩ => ⟨S2560x2560, .i8⟩
  | .local _ .vmem, ⟨2, _⟩ => ⟨S20x5120, .f32⟩
  | .local _ .vmem, ⟨3, _⟩ => ⟨S1x5120, .f32⟩
  | .local _ .vmem, ⟨4, _⟩ => ⟨S12288x5120, .bf16⟩
  | .local _ .vmem, ⟨5, _⟩ => ⟨S12288x2560, .fp8e4m3⟩
  | .local _ .vmem, ⟨6, _⟩ => ⟨S12288x20, .f32⟩
  | _, _ => ⟨S3x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S12288x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Val.Cond.lean ====
/-
The kernel's three branch conditions in closed form over the grid points, the memrefs the body is called with at a point,
and the scratch buffers as owned memrefs: what the runs of the body are stated over.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `conditional` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `conditional` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's `conditional` 2 (`k0_h3`), from the grid coordinates (the skeleton's scalar
    chain substituted). -/
abbrev cond0_2 (i : grid0.Coords) : Prop := k0_cond3 i = 1#1
/-- It holds at points 2, 4, 6, 8, 10, 12, 14, 16, 18, 20, 22 and 24 only — decided over the grid. -/
theorem hcond0_2 : ∀ t : Fin cfg0.N, cond0_2 (grid0.coords t) ↔ (t.val % 25 = 2 ∨ t.val % 25 = 4 ∨ t.val % 25 = 6 ∨ t.val % 25 = 8 ∨ t.val % 25 = 10 ∨ t.val % 25 = 12 ∨ t.val % 25 = 14 ∨ t.val % 25 = 16 ∨ t.val % 25 = 18 ∨ t.val % 25 = 20 ∨ t.val % 25 = 22 ∨ t.val % 25 = 24) :=
  (by decide +kernel : ∀ t : Fin grid0.N, cond0_2 (grid0.coords t) ↔ (t.val % 25 = 2 ∨ t.val % 25 = 4 ∨ t.val % 25 = 6 ∨ t.val % 25 = 8 ∨ t.val % 25 = 10 ∨ t.val % 25 = 12 ∨ t.val % 25 = 14 ∨ t.val % 25 = 16 ∨ t.val % 25 = 18 ∨ t.val % 25 = 20 ∨ t.val % 25 = 22 ∨ t.val % 25 = 24))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x2560 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2560 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x20 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2560x5120 .bf16 := Memref.whole cc0_scratch0
abbrev scM0_1 : Memref sig .tc .vmem S512x2560 .bf16 := Memref.whole cc0_scratch1
abbrev scM0_2 : Memref sig .tc .vmem S512x2560 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Val.Spec.lean ====
/-
What the kernel body computes, as functions on vectors: the quantisation of one 128 × 128 piece of the block of
activations, the dequantised weights of one 128 × 256 piece, the whole-block arrays put together from the pieces,
and the product of one block. Each function lists the kernel's operations in the kernel's order; nothing here depends
on how floats are read.
-/
module

public import proofs.«01_k».proof.Proof.Val.Cond
public import Idealize.ShloMosaic.Lib.ValueIdxCoords
public import Idealize.ShloMosaic.Lib.WholeRead
public import Idealize.ShloMosaic.Lib.VecWindow

@[expose] public section

set_option maxRecDepth 16384

noncomputable section

namespace Cert.KernelIdeal.Val

open Idealize.ShloMosaic Idealize.ShloMosaic.TcCoe Idealize.ShloMosaic.ValueIdx
open Cert.KernelIdeal Cert.KernelIdeal.Gen

variable {F : FTy → Type} [FloatOps F]

/-! ## One group of activations -/

/-- The exponent field of `absmax / 448` of each row of a piece, in every lane. -/
def expo (v : Vec F S128x128 .bf16) : IVec S128x128 32 :=
  let a : FVec F S128 .f32 :=
    multiReduction .maximumf [1] S128 (extf .f32 (absf (shapeCast S128x128 v shapeCasts_S128x128_S128x128)) bitsLt_bf16_f32 : FVec F S128x128 .f32)
      0xFF800000#32 reduces_S128x128_S128 (.inl rfl) rfl
  let t : FVec F S128x1 .f32 := mulf (shapeCast S128x1 a shapeCasts_S128_S128x1) (broadcast S128x1 (Scalar.ofBits .f32 0x3B124925#32))
  let fields : IVec S128x256 32 := shli (iota .tc S128x256 32 [1] iota_S128x256_d1_w32) (broadcast S128x256 23#32)
  let below : IVec S128x256 1 :=
    cmpf .ole (bitcastToFloat .f32 fields : FVec F S128x256 .f32)
      (broadcastTo S128x256 (shapeCast S128x1 t shapeCasts_S128x1_S128x1) broadcasts_S128x1_S128x256)
  let e : IVec S128 32 :=
    multiReductionI .maxsi [1] S128 (select below fields (broadcast S128x256 0#32)) 2147483648#32 reduces_S128x256_S128 rfl
  broadcastTo S128x128 (shapeCast S128x1 (shapeCast S128x1 e shapeCasts_S128_S128x1) shapeCasts_S128x1_S128x1)
    broadcasts_S128x1_S128x128

/-- Where the exponent field is not zero. -/
def nonzero (v : Vec F S128x128 .bf16) : IVec S128x128 1 := cmpi .ne (expo v) (broadcast S128x128 0#32)

/-- The scale of each row of a piece, in every lane: the power of two above, or 1 where the field is zero. -/
def sclOf (v : Vec F S128x128 .bf16) : FVec F S128x128 .f32 :=
  select (nonzero v) (bitcastToFloat .f32 (addi (expo v) (broadcast S128x128 8388608#32)) : FVec F S128x128 .f32)
    (broadcast S128x128 (Scalar.ofBits .f32 0x3F800000#32))

/-- The inverse of the scale of each row of a piece, in every lane. -/
def invOf (v : Vec F S128x128 .bf16) : FVec F S128x128 .f32 :=
  select (nonzero v) (bitcastToFloat .f32 (subi (broadcast S128x128 2122317824#32) (expo v)) : FVec F S128x128 .f32)
    (broadcast S128x128 (Scalar.ofBits .f32 0x3F800000#32))

/-- The fp8 codes of a piece: the quotients by the scale, clipped to ±448. -/
def codOf (v : Vec F S128x128 .bf16) : FVec F S128x128 .fp8e4m3 :=
  truncf .fp8e4m3
    (minimumf (broadcast S128x128 (Scalar.ofBits .f32 0x43E00000#32))
      (maximumf (broadcast S128x128 (Scalar.ofBits .f32 0xC3E00000#32))
        (mulf (extf .f32 (shapeCast S128x128 v shapeCasts_S128x128_S128x128) bitsLt_bf16_f32 : FVec F S128x128 .f32) (invOf v))))
    bitsLt_fp8e4m3_f32

/-- The dequantised codes of a piece. -/
def xdOf (v : Vec F S128x128 .bf16) : FVec F S128x128 .bf16 :=
  shapeCast S128x128
    (mulf (extf .bf16 (codOf v) bitsLt_fp8e4m3_bf16 : FVec F S128x128 .bf16) (truncf .bf16 (sclOf v) bitsLt_bf16_f32))
    shapeCasts_S128x128_S128x128

/-- Zero in every lane. -/
def zeroLanes : FVec F S128x128 .f32 := broadcast S128x128 (Scalar.ofBits .f32 0x00000000#32)

/-- The scales of the piece `v` put in lane `n` of each row. -/
def putScl (n : BitVec 32) (v : Vec F S128x128 .bf16) (prev : FVec F S128x128 .f32) : FVec F S128x128 .f32 :=
  select (cmpi .eq (iota .tc S128x128 32 [1] iota_S128x128_d1_w32) (broadcast S128x128 n)) (sclOf v) prev

/-- The scales of 128 rows, from the pieces of their twenty groups: each group's in its lane, zero in the other lanes. -/
def sclLanes (T : Fin 20 → Vec F S128x128 .bf16) : FVec F S128x128 .f32 :=
  (putScl 19#32 (T ⟨19, by decide⟩)
  (putScl 18#32 (T ⟨18, by decide⟩)
  (putScl 17#32 (T ⟨17, by decide⟩)
  (putScl 16#32 (T ⟨16, by decide⟩)
  (putScl 15#32 (T ⟨15, by decide⟩)
  (putScl 14#32 (T ⟨14, by decide⟩)
  (putScl 13#32 (T ⟨13, by decide⟩)
  (putScl 12#32 (T ⟨12, by decide⟩)
  (putScl 11#32 (T ⟨11, by decide⟩)
  (putScl 10#32 (T ⟨10, by decide⟩)
  (putScl 9#32 (T ⟨9, by decide⟩)
  (putScl 8#32 (T ⟨8, by decide⟩)
  (putScl 7#32 (T ⟨7, by decide⟩)
  (putScl 6#32 (T ⟨6, by decide⟩)
  (putScl 5#32 (T ⟨5, by decide⟩)
  (putScl 4#32 (T ⟨4, by decide⟩)
  (putScl 3#32 (T ⟨3, by decide⟩)
  (putScl 2#32 (T ⟨2, by decide⟩)
  (putScl 1#32 (T ⟨1, by decide⟩)
  (putScl 0#32 (T ⟨0, by decide⟩) zeroLanes))))))))))))))))))))

/-- The scales of 128 rows. -/
def sclRows (T : Fin 20 → Vec F S128x128 .bf16) : FVec F S128x20 .f32 :=
  extractStridedSlice S128x20 ![0, 0] (sclLanes T) slices_S128x128_o0_0_S128x20

/-- The scales of 128 rows, taken from lanes that are those of `T`. -/
theorem sclRows_of {T : Fin 20 → Vec F S128x128 .bf16} {w : FVec F S128x20 .f32} {p : FVec F S128x128 .f32}
    (hw : w = extractStridedSlice S128x20 ![0, 0] p slices_S128x128_o0_0_S128x20) (h : p = sclLanes T) : w = sclRows T := by
  rw [hw, h]; rfl

/-- One lane more on lanes that agree. -/
theorem putScl_congr {n : BitVec 32} {v : Vec F S128x128 .bf16} {w p q : FVec F S128x128 .f32} (hw : w = putScl n v p) (h : p = q) :
    w = putScl n v q := by rw [hw, h]

/-- The piece at row chunk `r` and group `g` of a block of activations. -/
def tile (x0 : Vec F S512x2560 .bf16) (r : Fin 4) (g : Fin 20) : Vec F S128x128 .bf16 := fun j =>
  x0 (ix2 (⟨128 * r.val + (j 0).val, by have := r.isLt; have h : (j 0).val < 128 := (j 0).isLt; omega⟩ : Fin 512)
    (⟨128 * g.val + (j 1).val, by have := g.isLt; have h : (j 1).val < 128 := (j 1).isLt; omega⟩ : Fin 2560))

/-- The row chunk of a row of the block, and the row within it. -/
def rowChunk (y : Fin 512) : Fin 4 := ⟨y.val / 128, by have := y.isLt; omega⟩
def rowIn (y : Fin 512) : Fin 128 := ⟨y.val % 128, Nat.mod_lt _ (by decide)⟩
/-- The group of a column of the block, and the lane within it. -/
def grp (y : Fin 2560) : Fin 20 := ⟨y.val / 128, by have := y.isLt; omega⟩
def lane (y : Fin 2560) : Fin 128 := ⟨y.val % 128, Nat.mod_lt _ (by decide)⟩

/-- A block put together from its pieces, each from the piece of the activations at its place. -/
def blockOf {e : EltTy} (f : Vec F S128x128 .bf16 → Vec F S128x128 e) (x0 : Vec F S512x2560 .bf16) : Vec F S512x2560 e := fun y =>
  f (tile x0 (rowChunk (y 0)) (grp (y 1))) (ix2 (rowIn (y 0)) (lane (y 1)))

/-- The codes of a block. -/
def Codes (x0 : Vec F S512x2560 .bf16) : Vec F S512x2560 .fp8e4m3 := blockOf codOf x0

/-- The dequantised codes of a block. -/
def XD (x0 : Vec F S512x2560 .bf16) : Vec F S512x2560 .bf16 := blockOf xdOf x0

/-- The scales of a block. -/
def Scl (x0 : Vec F S512x2560 .bf16) : Vec F S512x20 .f32 := fun y =>
  sclRows (tile x0 (rowChunk (y 0))) (ix2 (rowIn (y 0)) (y 1))

/-! ## The weights -/

/-- Four packed bytes to a word. -/
def words (v : Vec F S128x256 .i8) : IVec S32x256 32 := bitcast S32x256 32 v bitcasts_S128x256_w8_S32x256_w32

/-- The weights of the offset codes in `b`, with the scales `w` of the piece's columns. -/
def deq (b : IVec S32x256 32) (w : Vec F S1x256 .f32) : FVec F S128x256 .bf16 :=
  shapeCast S128x256
    (mulf (subf (sitofp .bf16 (bitcast S128x256 8 b bitcasts_S32x256_w32_S128x256_w8) : FVec F S128x256 .bf16)
        (broadcast S128x256 (Scalar.ofBits .bf16 0x4100#16)))
      (broadcastTo S128x256 (truncf .bf16 w bitsLt_bf16_f32 : FVec F S1x256 .bf16) broadcasts_S1x256_S128x256))
    shapeCasts_S128x256_S128x256

/-- The weights of a piece's low nibbles. -/
def unpackLo (v : Vec F S128x256 .i8) (w : Vec F S1x256 .f32) : FVec F S128x256 .bf16 :=
  deq (xori (andi (words v) (broadcast S32x256 252645135#32)) (broadcast S32x256 134744072#32)) w

/-- The weights of a piece's high nibbles. -/
def unpackHi (v : Vec F S128x256 .i8) (w : Vec F S1x256 .f32) : FVec F S128x256 .bf16 :=
  deq (xori (andi (shrsi (words v) (broadcast S32x256 4#32)) (broadcast S32x256 252645135#32)) (broadcast S32x256 134744072#32)) w

/-- The packed piece of group `g` and column chunk `k`. -/
def wTile (x1 : Vec F S2560x2560 .i8) (g : Fin 20) (k : Fin 10) : Vec F S128x256 .i8 := fun j =>
  x1 (ix2 (⟨128 * g.val + (j 0).val, by have := g.isLt; have h : (j 0).val < 128 := (j 0).isLt; omega⟩ : Fin 2560)
    (⟨256 * k.val + (j 1).val, by have := k.isLt; have h : (j 1).val < 256 := (j 1).isLt; omega⟩ : Fin 2560))

/-- The weight scales of group `g` and column chunk `k` (of twenty). -/
def gTile (x2 : Vec F S20x5120 .f32) (g : Fin 20) (k : Fin 20) : Vec F S1x256 .f32 := fun j =>
  x2 (ix2 g (⟨256 * k.val + (j 1).val, by have := k.isLt; have h : (j 1).val < 256 := (j 1).isLt; omega⟩ : Fin 5120))

/-- The dequantised weights: the low nibbles give the first half of the columns, the high nibbles the second. -/
def WD (x1 : Vec F S2560x2560 .i8) (x2 : Vec F S20x5120 .f32) : Vec F S2560x5120 .bf16 := fun y =>
  have h0 : (y 0).val < 2560 := (y 0).isLt
  have h1 : (y 1).val < 5120 := (y 1).isLt
  if h : (y 1).val < 2560 then
    unpackLo (wTile x1 ⟨(y 0).val / 128, by omega⟩ ⟨(y 1).val / 256, by omega⟩)
      (gTile x2 ⟨(y 0).val / 128, by omega⟩ ⟨(y 1).val / 256, by omega⟩)
      (ix2 (⟨(y 0).val % 128, Nat.mod_lt _ (by decide)⟩ : Fin 128) (⟨(y 1).val % 256, Nat.mod_lt _ (by decide)⟩ : Fin 256))
  else
    unpackHi (wTile x1 ⟨(y 0).val / 128, by omega⟩ ⟨(y 1).val / 256 - 10, by omega⟩)
      (gTile x2 ⟨(y 0).val / 128, by omega⟩ ⟨(y 1).val / 256, by omega⟩)
      (ix2 (⟨(y 0).val % 128, Nat.mod_lt _ (by decide)⟩ : Fin 128) (⟨(y 1).val % 256, Nat.mod_lt _ (by decide)⟩ : Fin 256))

/-! ## The product -/

/-- One block of the result: the product of the dequantised block with the weights, times the column scales. -/
def Y (xd : Vec F S512x2560 .bf16) (wd : Vec F S2560x5120 .bf16) (ws : Vec F S1x5120 .f32) : FVec F S512x5120 .bf16 :=
  truncf .bf16
    (mulf (matmul dot_S512x2560_S2560x5120_S512x5120_1_0_0_1_n_n none xd wd (constant S512x5120 .f32 0x00000000#32) : FVec F S512x5120 .f32)
      (broadcastTo S512x5120 (shapeCast S1x5120 ws shapeCasts_S1x5120_S1x5120) broadcasts_S1x5120_S512x5120))
    bitsLt_bf16_f32

end Cert.KernelIdeal.Val

end
-- ==== Proof.Val.Piece.lean ====
/-
One stored piece of each buffer the body fills is the buffer's whole-block function at that piece's place: a piece of
the codes, of the dequantised block, of the scales and of the weights, each computed from what the body loads.
-/
module

public import proofs.«01_k».proof.Proof.Val.Spec

@[expose] public section

set_option maxRecDepth 16384

noncomputable section

namespace Cert.KernelIdeal.Val

open Idealize.ShloMosaic Idealize.ShloMosaic.TcCoe Idealize.ShloMosaic.ValueIdx
open Cert.KernelIdeal Cert.KernelIdeal.Gen

variable {F : FTy → Type} [FloatOps F]

/-- Two places of a rank-2 array are equal when their coordinates are. -/
theorem idx_ext {a b : Nat} {x y : (⟨2, ![a, b]⟩ : Shape).Idx} (h0 : (x 0).val = (y 0).val) (h1 : (x 1).val = (y 1).val) : x = y := by
  funext k
  match k with
  | ⟨0, _⟩ => exact Fin.ext h0
  | ⟨1, _⟩ => exact Fin.ext h1

variable {arg1 : Memref sig .tc .vmem S512x2560 .bf16}

/-- A load of a 128 × 128 piece of the block of activations at offsets that are multiples of 128. -/
theorem load_tile (harg1 : arg1.IsWhole) (x0 : Vec F S512x2560 .bf16) {o0 o1 : Nat}
    (hin : ∀ a, (![o0, o1] : Fin 2 → Nat) a + S128x128.size a ≤ S512x2560.size a) (r : Fin 4) (g : Fin 20)
    (h0 : 128 * r.val = o0) (h1 : 128 * g.val = o1) :
    arg1.view.readAt (Elt F) (Rect.unit (s := S512x2560) ![o0, o1] S128x128.size hin).toLoadRect (harg1.unread x0)
      = tile x0 r g := by
  subst h0 h1
  funext j
  rw [harg1.readAt_unread]
  exact congrArg x0 (idx_ext (by simp [Rect.unit, LoadRect.idx]; try rfl) (by simp [Rect.unit, LoadRect.idx]; try rfl))

/-- A stored 128 × 128 piece is the block function at its place. -/
theorem piece_at {e : EltTy} (f : Vec F S128x128 .bf16 → Vec F S128x128 e) (harg1 : arg1.IsWhole) (x0 : Vec F S512x2560 .bf16) {o0 o1 : Nat}
    (hin' : ∀ a, (![o0, o1] : Fin 2 → Nat) a + S128x128.size a ≤ S512x2560.size a) (w : Vec F S128x128 e)
    (hw : w = f (arg1.view.readAt (Elt F) (Rect.unit (s := S512x2560) ![o0, o1] S128x128.size hin').toLoadRect (harg1.unread x0)))
    (h0 : o0 % 128 = 0) (h1 : o1 % 128 = 0) (x : S128x128.Idx) :
    w x = blockOf f x0 ((Rect.unit (s := S512x2560) ![o0, o1] S128x128.size hin').emb x) := by
  subst hw
  have b0 : o0 + 128 ≤ 512 := hin' 0
  have b1 : o1 + 128 ≤ 2560 := hin' 1
  have x0' : (x 0).val < 128 := (x 0).isLt
  have x1' : (x 1).val < 128 := (x 1).isLt
  rw [load_tile harg1 x0 hin' ⟨o0 / 128, by omega⟩ ⟨o1 / 128, by omega⟩ (by simp; omega) (by simp; omega)]
  have e0 : ((Rect.unit (s := S512x2560) ![o0, o1] S128x128.size hin').emb x 0).val = o0 + (x 0).val := by
    simp [Rect.unit, Rect.emb]
  have e1 : ((Rect.unit (s := S512x2560) ![o0, o1] S128x128.size hin').emb x 1).val = o1 + (x 1).val := by
    simp [Rect.unit, Rect.emb]
  unfold blockOf
  have r0 : rowChunk ((Rect.unit (s := S512x2560) ![o0, o1] S128x128.size hin').emb x 0) = ⟨o0 / 128, by omega⟩ :=
    Fin.ext (by show _ / 128 = o0 / 128; rw [e0]; omega)
  have r1 : grp ((Rect.unit (s := S512x2560) ![o0, o1] S128x128.size hin').emb x 1) = ⟨o1 / 128, by omega⟩ :=
    Fin.ext (by show _ / 128 = o1 / 128; rw [e1]; omega)
  rw [r0, r1]
  exact congrArg _ (idx_ext (by show (x 0).val = _ % 128; rw [e0]; omega) (by show (x 1).val = _ % 128; rw [e1]; omega))

/-- The twenty pieces of a row chunk as loads, at offsets that are literals once the chunk is. -/
def loads (harg1 : arg1.IsWhole) (x0 : Vec F S512x2560 .bf16) (o0 : Nat) (ho : o0 + 128 ≤ 512) (g : Fin 20) : Vec F S128x128 .bf16 :=
  arg1.view.readAt (Elt F)
    (Rect.unit (s := S512x2560) ![o0, 128 * g.val] S128x128.size
      (fun a => match a with
        | ⟨0, _⟩ => ho
        | ⟨1, _⟩ => by have := g.isLt; show 128 * g.val + 128 ≤ 2560; omega)).toLoadRect (harg1.unread x0)

/-- The place of a 128 × 20 piece lies within the scales. -/
theorem sclIn {o0 : Nat} (ho : o0 + 128 ≤ 512) : ∀ a, (![o0, 0] : Fin 2 → Nat) a + S128x20.size a ≤ S512x20.size a := fun a => match a with
  | ⟨0, _⟩ => ho
  | ⟨1, _⟩ => Nat.le_refl 20

/-- A stored 128 × 20 piece of the scales is the block's scales at its place. -/
theorem scl_at (harg1 : arg1.IsWhole) (x0 : Vec F S512x2560 .bf16) {o0 : Nat} (ho : o0 + 128 ≤ 512)
    (w : Vec F S128x20 .f32) (hw : w = sclRows (loads harg1 x0 o0 ho))
    (h0 : o0 % 128 = 0) (x : S128x20.Idx) :
    w x = Scl x0 ((Rect.unit (s := S512x20) ![o0, 0] S128x20.size (sclIn ho)).emb x) := by
  have hin' := sclIn ho
  subst hw
  have b0 : o0 + 128 ≤ 512 := hin' 0
  have x0' : (x 0).val < 128 := (x 0).isLt
  have hl : loads harg1 x0 o0 ho = tile x0 ⟨o0 / 128, by omega⟩ := by
    funext g
    exact load_tile harg1 x0 _ ⟨o0 / 128, by omega⟩ g (by simp; omega) rfl
  rw [hl]
  have e0 : ((Rect.unit (s := S512x20) ![o0, 0] S128x20.size hin').emb x 0).val = o0 + (x 0).val := by
    simp [Rect.unit, Rect.emb]
  have e1 : ((Rect.unit (s := S512x20) ![o0, 0] S128x20.size hin').emb x 1).val = (x 1).val := by
    simp [Rect.unit, Rect.emb]
  unfold Scl
  have r0 : rowChunk ((Rect.unit (s := S512x20) ![o0, 0] S128x20.size hin').emb x 0) = ⟨o0 / 128, by omega⟩ :=
    Fin.ext (by show _ / 128 = o0 / 128; rw [e0]; omega)
  rw [r0]
  exact congrArg _ (idx_ext (by show (x 0).val = _ % 128; rw [e0]; omega) (by show (x 1).val = _; exact e1.symm))

end Cert.KernelIdeal.Val

end
-- ==== Proof.Val.Trip.lean ====
/-
One trip of the unpacking loop: every piece it stores into the first scratch buffer is a piece of the dequantised weights, and
the ten trips store all of them.
-/
module

public import proofs.«01_k».proof.Proof.Val.Piece
public import proofs.«01_k».proof.Proof.Gen.KernelIdeal.Loops

@[expose] public section

set_option maxRecDepth 16384

noncomputable section

namespace Cert.KernelIdeal.Val

open Idealize.ShloMosaic Idealize.ShloMosaic.TcCoe Idealize.ShloMosaic.ValueIdx
open Cert.KernelIdeal Cert.KernelIdeal.Gen

variable {F : FTy → Type} [FloatOps F]

/-- The loop's ten trips. -/
theorem trips_eq : k0_t1_loop.trips = 10 := by decide +kernel

/-- The column a trip begins at in the first half of the columns, and in the second. -/
theorem lo_col : ∀ k : Fin k0_t1_loop.trips,
    (Scalar.indexCast (Scalar.muli (Scalar.addi 0#32 (Scalar.muli (Scf.iv 0#32 1#32 k) 1#32)) 256#32) : Index).toNat = 256 * k.val := by
  decide +kernel
theorem hi_col : ∀ k : Fin k0_t1_loop.trips,
    (Scalar.indexCast (Scalar.addi 2560#32 (Scalar.muli (Scalar.addi 0#32 (Scalar.muli (Scf.iv 0#32 1#32 k) 1#32)) 256#32)) : Index).toNat
      = 2560 + 256 * k.val := by
  decide +kernel

theorem hi_col' (k : Fin k0_t1_loop.trips) :
    (Scalar.indexCast (Scalar.addi 2560#32 (Scalar.muli (Scalar.addi 0#32 (Scalar.muli (Scf.iv 0#32 1#32 k) 1#32)) 256#32)) : Index).toNat
      = 256 * (10 + k.val) := by
  rw [hi_col]; omega

variable {arg2 : Memref sig .tc .vmem S2560x2560 .i8} {arg3 : Memref sig .tc .vmem S20x5120 .f32}

/-- A load of a 128 × 256 piece of the packed weights. -/
theorem load_wTile (harg2 : arg2.IsWhole) (x1 : Vec F S2560x2560 .i8) {o : Fin 2 → Nat}
    (ho : ∀ a, o a + S128x256.size a ≤ S2560x2560.size a) (g : Fin 20) (k : Fin 10) (h0 : o 0 = 128 * g.val) (h1 : o 1 = 256 * k.val) :
    arg2.view.readAt (Elt F) (Rect.unit (s := S2560x2560) o S128x256.size ho).toLoadRect (harg2.unread x1) = wTile x1 g k := by
  funext j
  rw [harg2.readAt_unread]
  exact congrArg x1 (idx_ext (by simp [Rect.unit, LoadRect.idx]; exact h0) (by simp [Rect.unit, LoadRect.idx]; exact h1))

/-- A load of a 1 × 256 piece of the weight scales. -/
theorem load_gTile (harg3 : arg3.IsWhole) (x2 : Vec F S20x5120 .f32) {o : Fin 2 → Nat}
    (ho : ∀ a, o a + S1x256.size a ≤ S20x5120.size a) (g : Fin 20) (k : Fin 20) (h0 : o 0 = g.val) (h1 : o 1 = 256 * k.val) :
    arg3.view.readAt (Elt F) (Rect.unit (s := S20x5120) o S1x256.size ho).toLoadRect (harg3.unread x2) = gTile x2 g k := by
  funext j
  have hj : (j 0).val < 1 := (j 0).isLt
  rw [harg3.readAt_unread]
  exact congrArg x2 (idx_ext (by simp [Rect.unit, LoadRect.idx]; omega) (by simp [Rect.unit, LoadRect.idx]; exact h1))

/-- The place of a piece of group `g` and trip `k`, in the half of the columns that begins at `c`, lies within the weights. -/
theorem inOf {g : Nat} (hg : g < 20) {c : Nat} (hc : c ≤ 2560) (k : Fin k0_t1_loop.trips) {os : Fin 2 → Nat} (s0 : os 0 = 128 * g)
    (s1 : os 1 = c + 256 * k.val) : ∀ a, os a + S128x256.size a ≤ S2560x5120.size a := fun a =>
  have hk : k.val < 10 := lt_of_lt_of_eq k.isLt trips_eq
  match a with
  | ⟨0, _⟩ => by show os 0 + 128 ≤ 2560; omega
  | ⟨1, _⟩ => by show os 1 + 256 ≤ 5120; omega

/-- A stored piece of the low nibbles' weights is the weights' piece at its place. -/
theorem wdLo_at (x1 : Vec F S2560x2560 .i8) (x2 : Vec F S20x5120 .f32) (k : Fin k0_t1_loop.trips) (g : Nat) (hg : g < 20)
    {os : Fin 2 → Nat} (w : Vec F S128x256 .bf16) (v : Vec F S128x256 .i8)
    (u : Vec F S1x256 .f32) (hw : w = unpackLo v u) (hv : v = wTile x1 ⟨g, hg⟩ ⟨k.val, lt_of_lt_of_eq k.isLt trips_eq⟩)
    (hu : u = gTile x2 ⟨g, hg⟩ ⟨k.val, by have := lt_of_lt_of_eq k.isLt trips_eq; omega⟩) (s0 : os 0 = 128 * g) (s1 : os 1 = 256 * k.val)
    (x : S128x256.Idx) : w x = WD x1 x2 ((Rect.unit (s := S2560x5120) os S128x256.size (inOf hg (c := 0) (by decide) k s0 (s1.trans (Nat.zero_add _).symm))).emb x) := by
  have hos := inOf hg (c := 0) (by decide) k s0 (s1.trans (Nat.zero_add _).symm)
  subst hw
  have hk : k.val < 10 := lt_of_lt_of_eq k.isLt trips_eq
  have b0 : os 0 + 128 ≤ 2560 := hos 0
  have x0' : (x 0).val < 128 := (x 0).isLt
  have x1' : (x 1).val < 256 := (x 1).isLt
  subst hv hu
  have e0 : ((Rect.unit (s := S2560x5120) os S128x256.size hos).emb x 0).val = os 0 + (x 0).val := by simp [Rect.unit, Rect.emb]
  have e1 : ((Rect.unit (s := S2560x5120) os S128x256.size hos).emb x 1).val = os 1 + (x 1).val := by simp [Rect.unit, Rect.emb]
  unfold WD
  rw [dif_pos (by rw [e1]; omega)]
  have r0 : (⟨((Rect.unit (s := S2560x5120) os S128x256.size hos).emb x 0).val / 128, by omega⟩ : Fin 20) = ⟨g, hg⟩ :=
    Fin.ext (by show _ / 128 = g; rw [e0]; omega)
  have r1 : (⟨((Rect.unit (s := S2560x5120) os S128x256.size hos).emb x 1).val / 256, by omega⟩ : Fin 10) = ⟨k.val, hk⟩ :=
    Fin.ext (by show _ / 256 = k.val; rw [e1]; omega)
  have r2 : (⟨((Rect.unit (s := S2560x5120) os S128x256.size hos).emb x 1).val / 256, by omega⟩ : Fin 20) = ⟨k.val, by omega⟩ :=
    Fin.ext (by show _ / 256 = k.val; rw [e1]; omega)
  rw [r0, r1, r2]
  exact congrArg _ (idx_ext (by show (x 0).val = _ % 128; rw [e0]; omega) (by show (x 1).val = _ % 256; rw [e1]; omega))

/-- A stored piece of the high nibbles' weights is the weights' piece at its place. -/
theorem wdHi_at (x1 : Vec F S2560x2560 .i8) (x2 : Vec F S20x5120 .f32) (k : Fin k0_t1_loop.trips) (g : Nat) (hg : g < 20)
    {os : Fin 2 → Nat} (w : Vec F S128x256 .bf16) (v : Vec F S128x256 .i8)
    (u : Vec F S1x256 .f32) (hw : w = unpackHi v u) (hv : v = wTile x1 ⟨g, hg⟩ ⟨k.val, lt_of_lt_of_eq k.isLt trips_eq⟩)
    (hu : u = gTile x2 ⟨g, hg⟩ ⟨10 + k.val, by have := lt_of_lt_of_eq k.isLt trips_eq; omega⟩) (s0 : os 0 = 128 * g) (s1 : os 1 = 2560 + 256 * k.val)
    (x : S128x256.Idx) : w x = WD x1 x2 ((Rect.unit (s := S2560x5120) os S128x256.size (inOf hg (c := 2560) (by decide) k s0 (s1))).emb x) := by
  have hos := inOf hg (c := 2560) (by decide) k s0 (s1)
  subst hw
  have hk : k.val < 10 := lt_of_lt_of_eq k.isLt trips_eq
  have b0 : os 0 + 128 ≤ 2560 := hos 0
  have x0' : (x 0).val < 128 := (x 0).isLt
  have x1' : (x 1).val < 256 := (x 1).isLt
  subst hv hu
  have e0 : ((Rect.unit (s := S2560x5120) os S128x256.size hos).emb x 0).val = os 0 + (x 0).val := by simp [Rect.unit, Rect.emb]
  have e1 : ((Rect.unit (s := S2560x5120) os S128x256.size hos).emb x 1).val = os 1 + (x 1).val := by simp [Rect.unit, Rect.emb]
  unfold WD
  rw [dif_neg (by rw [e1]; omega)]
  have r0 : (⟨((Rect.unit (s := S2560x5120) os S128x256.size hos).emb x 0).val / 128, by omega⟩ : Fin 20) = ⟨g, hg⟩ :=
    Fin.ext (by show _ / 128 = g; rw [e0]; omega)
  have r1 : (⟨((Rect.unit (s := S2560x5120) os S128x256.size hos).emb x 1).val / 256 - 10, by omega⟩ : Fin 10) = ⟨k.val, hk⟩ :=
    Fin.ext (by show _ / 256 - 10 = k.val; rw [e1]; omega)
  have r2 : (⟨((Rect.unit (s := S2560x5120) os S128x256.size hos).emb x 1).val / 256, by omega⟩ : Fin 20) = ⟨10 + k.val, by omega⟩ :=
    Fin.ext (by show _ / 256 = 10 + k.val; rw [e1]; omega)
  rw [r0, r1, r2]
  exact congrArg _ (idx_ext (by show (x 0).val = _ % 128; rw [e0]; omega) (by show (x 1).val = _ % 256; rw [e1]; omega))

/-! ## The trips -/

section
variable (𝒱 : Variants) (c : Dev nD) (bd : Option 𝒱.V) (i : grid0.Coords) (arg1 : Memref sig .tc .vmem S512x2560 .bf16) (harg1 : arg1.IsWhole) (arg2 : Memref sig .tc .vmem S2560x2560 .i8) (harg2 : arg2.IsWhole) (arg3 : Memref sig .tc .vmem S20x5120 .f32) (harg3 : arg3.IsWhole) (arg4 : Memref sig .tc .vmem S1x5120 .f32) (harg4 : arg4.IsWhole) (arg5 : Memref sig .tc .vmem S512x5120 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S2560x5120 .bf16) (harg8 : arg8.IsWhole) (arg9 : Memref sig .tc .vmem S512x2560 .bf16) (harg9 : arg9.IsWhole) (arg10 : Memref sig .tc .vmem S512x2560 .bf16) (harg10 : arg10.IsWhole) (k0_h1 : k0_cond1 i = 1#1)
  (x1 : Vec F S2560x2560 .i8) (x2 : Vec F S20x5120 .f32)

set_option maxHeartbeats 1000000 in
/-- Every piece a trip stores is a piece of the weights. -/
theorem trip_wd (k : Fin k0_t1_loop.trips) :
    ∀ p ∈ tripL_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) k,
      ∀ x : p.1.shape.Idx, p.2 x = WD x1 x2 (p.1.emb x) := by
  unfold tripL_k0_t1 trip_k0_t1
  dsimp only
  iterate 20
    refine List.forall_mem_cons.mpr ⟨?_, ?_⟩
    · intro x
      refine wdHi_at x1 x2 k _ (Nat.le_of_ble_eq_true ?_) _ _ _ rfl (load_wTile harg2 x1 _ _ _ ?_ ?_) (load_gTile harg3 x2 _ _ _ rfl ?_) ?_ ?_ x
      · rfl
      · rfl
      · exact lo_col k
      · exact hi_col' k
      · rfl
      · exact hi_col k
    refine List.forall_mem_cons.mpr ⟨?_, ?_⟩
    · intro x
      refine wdLo_at x1 x2 k _ (Nat.le_of_ble_eq_true ?_) _ _ _ rfl (load_wTile harg2 x1 _ _ _ ?_ ?_) (load_gTile harg3 x2 _ _ _ rfl ?_) ?_ ?_ x
      · rfl
      · rfl
      · exact lo_col k
      · exact lo_col k
      · rfl
      · exact lo_col k
  exact List.forall_mem_nil _

set_option maxHeartbeats 1000000 in
/-- A trip stores a piece for each group in the first half of the columns. -/
theorem trip_lo (k : Fin k0_t1_loop.trips) (n : Fin 20) :
    ∃ p ∈ tripL_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) k,
      p.1.size = S128x256.size ∧ p.1.stride = (fun _ => 1) ∧ p.1.off 0 = 128 * n.val ∧ p.1.off 1 = 256 * k.val := by
  unfold tripL_k0_t1 trip_k0_t1
  dsimp only
  refine ⟨_, List.getElem_mem (n := 39 - 2 * n.val) (by show 39 - 2 * n.val < 40; omega), ?_⟩
  fin_cases n <;> exact ⟨rfl, rfl, rfl, lo_col k⟩

set_option maxHeartbeats 1000000 in
/-- A trip stores a piece for each group in the second half of the columns. -/
theorem trip_hi (k : Fin k0_t1_loop.trips) (n : Fin 20) :
    ∃ p ∈ tripL_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) k,
      p.1.size = S128x256.size ∧ p.1.stride = (fun _ => 1) ∧ p.1.off 0 = 128 * n.val ∧ p.1.off 1 = 2560 + 256 * k.val := by
  unfold tripL_k0_t1 trip_k0_t1
  dsimp only
  refine ⟨_, List.getElem_mem (n := 38 - 2 * n.val) (by show 38 - 2 * n.val < 40; omega), ?_⟩
  fin_cases n <;> exact ⟨rfl, rfl, rfl, hi_col k⟩

end

end Cert.KernelIdeal.Val

end
-- ==== Proof.Val.Loop.lean ====
/-
The weights after the unpacking loop: its ten trips together store every piece of the dequantised weights.
-/
module

public import proofs.«01_k».proof.Proof.Val.Trip

@[expose] public section

set_option maxRecDepth 16384

noncomputable section

namespace Cert.KernelIdeal.Val

open Idealize.ShloMosaic Idealize.ShloMosaic.TcCoe Idealize.ShloMosaic.ValueIdx
open Cert.KernelIdeal Cert.KernelIdeal.Gen

variable {F : FTy → Type} [FloatOps F]

section
variable (𝒱 : Variants) (c : Dev nD) (bd : Option 𝒱.V) (i : grid0.Coords) (arg1 : Memref sig .tc .vmem S512x2560 .bf16) (harg1 : arg1.IsWhole) (arg2 : Memref sig .tc .vmem S2560x2560 .i8) (harg2 : arg2.IsWhole) (arg3 : Memref sig .tc .vmem S20x5120 .f32) (harg3 : arg3.IsWhole) (arg4 : Memref sig .tc .vmem S1x5120 .f32) (harg4 : arg4.IsWhole) (arg5 : Memref sig .tc .vmem S512x5120 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S2560x5120 .bf16) (harg8 : arg8.IsWhole) (arg9 : Memref sig .tc .vmem S512x2560 .bf16) (harg9 : arg9.IsWhole) (arg10 : Memref sig .tc .vmem S512x2560 .bf16) (harg10 : arg10.IsWhole) (k0_h1 : k0_cond1 i = 1#1)
  (x1 : Vec F S2560x2560 .i8) (x2 : Vec F S20x5120 .f32)

/-- Every piece of the trips before `n` is a piece of the weights. -/
theorem pieces_wd (n : ℕ) (hn : n ≤ k0_t1_loop.trips) :
    ∀ p ∈ pb_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) n,
      ∀ x : p.1.shape.Idx, p.2 x = WD x1 x2 (p.1.emb x) := by
  induction n with
  | zero => intro p hp; exact absurd hp (List.not_mem_nil)
  | succ n ih =>
    intro p hp
    rw [show n + 1 = (⟨n, hn⟩ : Fin k0_t1_loop.trips).val + 1 from rfl, pb_k0_t1_succ] at hp
    rcases List.mem_append.mp hp with h | h
    · exact trip_wd 𝒱 c bd i arg1 harg1 arg2 harg2 arg3 harg3 arg4 harg4 arg5 harg5 arg6 harg6 arg7 harg7 arg8 harg8 arg9 harg9 arg10 harg10 k0_h1 x1 x2 ⟨n, hn⟩ p h
    · exact ih (Nat.le_of_succ_le hn) p h

/-- A piece of trip `k` is among the pieces of the trips before `n`, when `k < n`. -/
theorem mem_pieces (n : ℕ) (hn : n ≤ k0_t1_loop.trips) (k : Fin k0_t1_loop.trips) (hk : k.val < n) (p : View.Piece (Elt F) S2560x5120 .bf16)
    (hp : p ∈ tripL_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) k) :
    p ∈ pb_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) n := by
  induction n with
  | zero => exact absurd hk (Nat.not_lt_zero _)
  | succ n ih =>
    rw [show n + 1 = (⟨n, hn⟩ : Fin k0_t1_loop.trips).val + 1 from rfl, pb_k0_t1_succ]
    rcases Nat.lt_succ_iff_lt_or_eq.mp hk with h | h
    · exact List.mem_append.mpr (.inr (ih (Nat.le_of_succ_le hn) h))
    · have e : k = ⟨n, hn⟩ := Fin.ext h
      subst e
      exact List.mem_append.mpr (.inl hp)

/-- Every place of the weights lies in a stored piece. -/
theorem cover_wd (y : S2560x5120.Idx) :
    ∃ p ∈ pb_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) k0_t1_loop.trips, y ∈ p.1.set := by
  have y0 : (y 0).val < 2560 := (y 0).isLt
  have y1 : (y 1).val < 5120 := (y 1).isLt
  by_cases h : (y 1).val < 2560
  · obtain ⟨p, hp, hs, ht, o0, o1⟩ := trip_lo 𝒱 c bd i arg1 harg1 arg2 harg2 arg3 harg3 arg4 harg4 arg5 harg5 arg6 harg6 arg7 harg7 arg8 harg8 arg9 harg9 arg10 harg10 k0_h1 x1 x2
      ⟨(y 1).val / 256, by rw [trips_eq]; omega⟩ ⟨(y 0).val / 128, by omega⟩
    refine ⟨p, mem_pieces 𝒱 c bd i arg1 harg1 arg2 harg2 arg3 harg3 arg4 harg4 arg5 harg5 arg6 harg6 arg7 harg7 arg8 harg8 arg9 harg9 arg10 harg10 k0_h1 x1 x2 _ (Nat.le_refl _) _ (Fin.isLt _) p hp, ?_⟩
    refine (LoadRect.mem_set _).mpr fun a => ?_
    rw [hs, ht]
    match a with
    | ⟨0, _⟩ => exact ⟨(y 0).val % 128, Nat.mod_lt _ (by decide), by show (y 0).val = p.1.off 0 + 1 * _; rw [o0]; show _ = 128 * ((y 0).val / 128) + _; omega⟩
    | ⟨1, _⟩ => exact ⟨(y 1).val % 256, Nat.mod_lt _ (by decide), by show (y 1).val = p.1.off 1 + 1 * _; rw [o1]; show _ = 256 * ((y 1).val / 256) + _; omega⟩
  · obtain ⟨p, hp, hs, ht, o0, o1⟩ := trip_hi 𝒱 c bd i arg1 harg1 arg2 harg2 arg3 harg3 arg4 harg4 arg5 harg5 arg6 harg6 arg7 harg7 arg8 harg8 arg9 harg9 arg10 harg10 k0_h1 x1 x2
      ⟨((y 1).val - 2560) / 256, by rw [trips_eq]; omega⟩ ⟨(y 0).val / 128, by omega⟩
    refine ⟨p, mem_pieces 𝒱 c bd i arg1 harg1 arg2 harg2 arg3 harg3 arg4 harg4 arg5 harg5 arg6 harg6 arg7 harg7 arg8 harg8 arg9 harg9 arg10 harg10 k0_h1 x1 x2 _ (Nat.le_refl _) _ (Fin.isLt _) p hp, ?_⟩
    refine (LoadRect.mem_set _).mpr fun a => ?_
    rw [hs, ht]
    match a with
    | ⟨0, _⟩ => exact ⟨(y 0).val % 128, Nat.mod_lt _ (by decide), by show (y 0).val = p.1.off 0 + 1 * _; rw [o0]; show _ = 128 * ((y 0).val / 128) + _; omega⟩
    | ⟨1, _⟩ => exact ⟨((y 1).val - 2560) % 256, Nat.mod_lt _ (by decide), by show (y 1).val = p.1.off 1 + 1 * _; rw [o1]; show _ = 2560 + 256 * (((y 1).val - 2560) / 256) + _; omega⟩

/-- After the loop the weights' buffer holds the dequantised weights. -/
theorem loop_wd (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 k0_h1 (harg2.unread x1) (harg3.unread x2) k0_t1_loop.trips)) = WD x1 x2 :=
  funext fun y => View.read_writes_apply_of_pieces _ _ (WD x1 x2) _
    (pieces_wd 𝒱 c bd i arg1 harg1 arg2 harg2 arg3 harg3 arg4 harg4 arg5 harg5 arg6 harg6 arg7 harg7 arg8 harg8 arg9 harg9 arg10 harg10 k0_h1 x1 x2 _ (Nat.le_refl _)) y
    (cover_wd 𝒱 c bd i arg1 harg1 arg2 harg2 arg3 harg3 arg4 harg4 arg5 harg5 arg6 harg6 arg7 harg7 arg8 harg8 arg9 harg9 arg10 harg10 k0_h1 x1 x2 y)

end

end Cert.KernelIdeal.Val

end
-- ==== Proof.Val.RunA.lean ====
/-
The body's run at the first grid point: the weights are unpacked, and the codes, the scales and the first scratch block
are the quantised block of activations.
-/
module

public import proofs.«01_k».proof.Proof.Val.Loop

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

-- (the run's proof term is large: checking it walks past the default budget)
set_option maxHeartbeats 3620000 in
/-- The body at the first point. -/
theorem run_A (c : Dev nD) (i : grid0.Coords) (arg1 : Memref sig .tc .vmem S512x2560 .bf16) (harg1 : arg1.IsWhole) (arg2 : Memref sig .tc .vmem S2560x2560 .i8) (harg2 : arg2.IsWhole) (arg3 : Memref sig .tc .vmem S20x5120 .f32) (harg3 : arg3.IsWhole) (arg4 : Memref sig .tc .vmem S1x5120 .f32) (harg4 : arg4.IsWhole) (arg5 : Memref sig .tc .vmem S512x5120 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S2560x5120 .bf16) (harg8 : arg8.IsWhole) (arg9 : Memref sig .tc .vmem S512x2560 .bf16) (harg9 : arg9.IsWhole) (arg10 : Memref sig .tc .vmem S512x2560 .bf16) (harg10 : arg10.IsWhole) (hc0 : cond0_0 i) (hc1 : ¬cond0_1 i) (hc2 : ¬cond0_2 i)
    (x0 : Vec F S512x2560 .bf16) (x1 : Vec F S2560x2560 .i8) (x2 : Vec F S20x5120 .f32) (x3 : Vec F S1x5120 .f32)
    :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare (Codes x0) ∗ owns (c : Thread nD τ) arg7 fullShare (Scl x0) ∗ owns (c : Thread nD τ) arg8 fullShare (WD x1 x2) ∗ owns (c : Thread nD τ) arg9 fullShare (XD x0) ∗ (∃ d, owns (c : Thread nD τ) arg10 fullShare d)) -∗ K ⟨⟩))
          ⊢ wp frame (wpE (defs₀ (F := F)) Variants.none c none) E (cc0_w4a8 i arg1 harg1 arg2 harg2 arg3 harg3 arg4 harg4 arg5 harg5 arg6 harg6 arg7 harg7 arg8 harg8 arg9 harg9 arg10 harg10) K := by
    intro E K
    simp only [cc0_w4a8_eq_skeleton]; unfold cc0_w4a8_skel
    rw [dif_pos hc0]
    simp only [k0_part114_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _; isplitr; swap; · iexact H5
      ipureintro
      funext y
      refine View.read_writes_apply_of_pieces _ _ (Codes x0) _ ?_ y ?_; swap; · exact View.cover_of_tiled (s := S512x2560) _ S128x128.size rfl y
      repeat (refine List.forall_mem_cons.mpr ⟨fun x => piece_at (e := .fp8e4m3) codOf harg1 x0 _ _ rfl rfl rfl x, ?_⟩)
      exact List.forall_mem_nil _
    isplitl [H6]
    · iexists _; isplitr; swap; · iexact H6
      ipureintro
      funext y
      refine View.read_writes_apply_of_pieces _ _ (Scl x0) _ ?_ y ?_; swap; · exact View.cover_of_tiled (s := S512x20) _ S128x20.size rfl y
      repeat (
        refine List.forall_mem_cons.mpr ⟨fun x => scl_at harg1 x0 (by decide) _ ?_ rfl x, ?_⟩
        · set_option maxRecDepth 1000000 in rfl)
      exact List.forall_mem_nil _
    isplitl [HS0]
    · iexists _; isplitr; swap; · iexact HS0
      ipureintro
      exact loop_wd _ _ _ _ _ _ _ _ _ _ _ _ _ _ _ _ _ _ _ _ _ _ _ _ _ _ _ _
    isplitl [HS1]
    · iexists _; isplitr; swap; · iexact HS1
      ipureintro
      funext y
      refine View.read_writes_apply_of_pieces _ _ (XD x0) _ ?_ y ?_; swap; · exact View.cover_of_tiled (s := S512x2560) _ S128x128.size rfl y
      repeat (refine List.forall_mem_cons.mpr ⟨fun x => piece_at (e := .bf16) xdOf harg1 x0 _ _ rfl rfl rfl x, ?_⟩)
      exact List.forall_mem_nil _
    iexists _, _; isplitr; swap; · iexact HS2
    ipureintro; rfl

end Cert.KernelIdeal.Val

end
-- ==== Proof.Val.RunB.lean ====
/-
The body's run at an odd grid point: the block of the result is the product of what the first scratch block holds, and
the codes, the scales and the second scratch block are the quantised block of activations.
-/
module

public import proofs.«01_k».proof.Proof.Val.Piece

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

-- (the run's proof term is large: checking it walks past the default budget)
set_option maxHeartbeats 3620000 in
/-- The body at an odd point, from the weights `wd` and the first scratch block `xd`. -/
theorem run_B (c : Dev nD) (i : grid0.Coords) (arg1 : Memref sig .tc .vmem S512x2560 .bf16) (harg1 : arg1.IsWhole) (arg2 : Memref sig .tc .vmem S2560x2560 .i8) (harg2 : arg2.IsWhole) (arg3 : Memref sig .tc .vmem S20x5120 .f32) (harg3 : arg3.IsWhole) (arg4 : Memref sig .tc .vmem S1x5120 .f32) (harg4 : arg4.IsWhole) (arg5 : Memref sig .tc .vmem S512x5120 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S2560x5120 .bf16) (harg8 : arg8.IsWhole) (arg9 : Memref sig .tc .vmem S512x2560 .bf16) (harg9 : arg9.IsWhole) (arg10 : Memref sig .tc .vmem S512x2560 .bf16) (harg10 : arg10.IsWhole) (hc0 : ¬cond0_0 i) (hc1 : cond0_1 i) (hc2 : ¬cond0_2 i)
    (x0 : Vec F S512x2560 .bf16) (x1 : Vec F S2560x2560 .i8) (x2 : Vec F S20x5120 .f32) (x3 : Vec F S1x5120 .f32)
    (wd : Vec F S2560x5120 .bf16) (xd : Vec F S512x2560 .bf16) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare wd ∗ owns (c : Thread nD τ) arg9 fullShare xd ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (Y xd wd x3) ∗ owns (c : Thread nD τ) arg6 fullShare (Codes x0) ∗ owns (c : Thread nD τ) arg7 fullShare (Scl x0) ∗ owns (c : Thread nD τ) arg8 fullShare wd ∗ owns (c : Thread nD τ) arg9 fullShare xd ∗ owns (c : Thread nD τ) arg10 fullShare (XD x0)) -∗ K ⟨⟩))
          ⊢ wp frame (wpE (defs₀ (F := F)) Variants.none c none) E (cc0_w4a8 i arg1 harg1 arg2 harg2 arg3 harg3 arg4 harg4 arg5 harg5 arg6 harg6 arg7 harg7 arg8 harg8 arg9 harg9 arg10 harg10) K := by
    intro E K
    simp only [cc0_w4a8_eq_skeleton]; unfold cc0_w4a8_skel
    rw [dif_neg hc0, dif_pos hc1]
    simp only [k0_part210_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part211_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hs0, HS0⟩, ⟨%fs1, %hs1, HS1⟩, ⟨%ds2, %fs2, -, HS2⟩, Hk⟩
    obtain rfl := harg1.eq_unread hf0; obtain rfl := harg2.eq_unread hf1; obtain rfl := harg3.eq_unread hf2; obtain rfl := harg4.eq_unread hf3
    obtain rfl := harg8.eq_unread hs0; obtain rfl := harg9.eq_unread hs1
    sl_exec (disch := sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_full, View.readAt_full, View.readAt_full, View.readAt_full, hs1, hs0, hf3]
      rfl
    isplitl [H5]
    · iexists _; isplitr; swap; · iexact H5
      ipureintro
      funext y
      refine View.read_writes_apply_of_pieces _ _ (Codes x0) _ ?_ y ?_; swap; · exact View.cover_of_tiled (s := S512x2560) _ S128x128.size rfl y
      repeat (refine List.forall_mem_cons.mpr ⟨fun x => piece_at (e := .fp8e4m3) codOf harg1 x0 _ _ rfl rfl rfl x, ?_⟩)
      exact List.forall_mem_nil _
    isplitl [H6]
    · iexists _; isplitr; swap; · iexact H6
      ipureintro
      funext y
      refine View.read_writes_apply_of_pieces _ _ (Scl x0) _ ?_ y ?_; swap; · exact View.cover_of_tiled (s := S512x20) _ S128x20.size rfl y
      repeat (
        refine List.forall_mem_cons.mpr ⟨fun x => scl_at harg1 x0 (by decide) _ ?_ rfl x, ?_⟩
        · set_option maxRecDepth 1000000 in rfl)
      exact List.forall_mem_nil _
    isplitl [HS0]
    · iexists _; isplitr; · ipureintro; exact harg8.read_unread _
      iexact HS0
    isplitl [HS1]
    · iexists _; isplitr; · ipureintro; exact harg9.read_unread _
      iexact HS1
    iexists _; isplitr; swap; · iexact HS2
    ipureintro
    funext y
    refine View.read_writes_apply_of_pieces _ _ (XD x0) _ ?_ y ?_; swap; · exact View.cover_of_tiled (s := S512x2560) _ S128x128.size rfl y
    repeat (refine List.forall_mem_cons.mpr ⟨fun x => piece_at (e := .bf16) xdOf harg1 x0 _ _ rfl rfl rfl x, ?_⟩)
    exact List.forall_mem_nil _

end Cert.KernelIdeal.Val

end
-- ==== Proof.Val.RunC.lean ====
/-
The body's run at an even grid point after the first: the block of the result is the product of what the second scratch
block holds, and the codes, the scales and the first scratch block are the quantised block of activations.
-/
module

public import proofs.«01_k».proof.Proof.Val.Piece

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

-- (the run's proof term is large: checking it walks past the default budget)
set_option maxHeartbeats 3620000 in
/-- The body at an even point after the first, from the weights `wd` and the second scratch block `xd`. -/
theorem run_C (c : Dev nD) (i : grid0.Coords) (arg1 : Memref sig .tc .vmem S512x2560 .bf16) (harg1 : arg1.IsWhole) (arg2 : Memref sig .tc .vmem S2560x2560 .i8) (harg2 : arg2.IsWhole) (arg3 : Memref sig .tc .vmem S20x5120 .f32) (harg3 : arg3.IsWhole) (arg4 : Memref sig .tc .vmem S1x5120 .f32) (harg4 : arg4.IsWhole) (arg5 : Memref sig .tc .vmem S512x5120 .bf16) (harg5 : arg5.IsWhole) (arg6 : Memref sig .tc .vmem S512x2560 .fp8e4m3) (harg6 : arg6.IsWhole) (arg7 : Memref sig .tc .vmem S512x20 .f32) (harg7 : arg7.IsWhole) (arg8 : Memref sig .tc .vmem S2560x5120 .bf16) (harg8 : arg8.IsWhole) (arg9 : Memref sig .tc .vmem S512x2560 .bf16) (harg9 : arg9.IsWhole) (arg10 : Memref sig .tc .vmem S512x2560 .bf16) (harg10 : arg10.IsWhole) (hc0 : ¬cond0_0 i) (hc1 : ¬cond0_1 i) (hc2 : cond0_2 i)
    (x0 : Vec F S512x2560 .bf16) (x1 : Vec F S2560x2560 .i8) (x2 : Vec F S20x5120 .f32) (x3 : Vec F S1x5120 .f32)
    (wd : Vec F S2560x5120 .bf16) (xd : Vec F S512x2560 .bf16) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare wd ∗ (∃ d, owns (c : Thread nD τ) arg9 fullShare d) ∗ owns (c : Thread nD τ) arg10 fullShare xd
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (Y xd wd x3) ∗ owns (c : Thread nD τ) arg6 fullShare (Codes x0) ∗ owns (c : Thread nD τ) arg7 fullShare (Scl x0) ∗ owns (c : Thread nD τ) arg8 fullShare wd ∗ owns (c : Thread nD τ) arg9 fullShare (XD x0) ∗ owns (c : Thread nD τ) arg10 fullShare xd) -∗ K ⟨⟩))
          ⊢ wp frame (wpE (defs₀ (F := F)) Variants.none c none) E (cc0_w4a8 i arg1 harg1 arg2 harg2 arg3 harg3 arg4 harg4 arg5 harg5 arg6 harg6 arg7 harg7 arg8 harg8 arg9 harg9 arg10 harg10) K := by
    intro E K
    simp only [cc0_w4a8_eq_skeleton]; unfold cc0_w4a8_skel
    rw [dif_neg hc0, dif_neg hc1, dif_pos hc2]
    simp only [k0_part307_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part308_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hs0, HS0⟩, ⟨%ds1, %fs1, -, HS1⟩, ⟨%fs2, %hs2, HS2⟩, Hk⟩
    obtain rfl := harg1.eq_unread hf0; obtain rfl := harg2.eq_unread hf1; obtain rfl := harg3.eq_unread hf2; obtain rfl := harg4.eq_unread hf3
    obtain rfl := harg8.eq_unread hs0; obtain rfl := harg10.eq_unread hs2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.read_writes_full, View.readAt_full, View.readAt_full, View.readAt_full, hs2, hs0, hf3]
      rfl
    isplitl [H5]
    · iexists _; isplitr; swap; · iexact H5
      ipureintro
      funext y
      refine View.read_writes_apply_of_pieces _ _ (Codes x0) _ ?_ y ?_; swap; · exact View.cover_of_tiled (s := S512x2560) _ S128x128.size rfl y
      repeat (refine List.forall_mem_cons.mpr ⟨fun x => piece_at (e := .fp8e4m3) codOf harg1 x0 _ _ rfl rfl rfl x, ?_⟩)
      exact List.forall_mem_nil _
    isplitl [H6]
    · iexists _; isplitr; swap; · iexact H6
      ipureintro
      funext y
      refine View.read_writes_apply_of_pieces _ _ (Scl x0) _ ?_ y ?_; swap; · exact View.cover_of_tiled (s := S512x20) _ S128x20.size rfl y
      repeat (
        refine List.forall_mem_cons.mpr ⟨fun x => scl_at harg1 x0 (by decide) _ ?_ rfl x, ?_⟩
        · set_option maxRecDepth 1000000 in rfl)
      exact List.forall_mem_nil _
    isplitl [HS0]
    · iexists _; isplitr; · ipureintro; exact harg8.read_unread _
      iexact HS0
    isplitl [HS1]
    · iexists _; isplitr; swap; · iexact HS1
      ipureintro
      funext y
      refine View.read_writes_apply_of_pieces _ _ (XD x0) _ ?_ y ?_; swap; · exact View.cover_of_tiled (s := S512x2560) _ S128x128.size rfl y
      repeat (refine List.forall_mem_cons.mpr ⟨fun x => piece_at (e := .bf16) xdOf harg1 x0 _ _ rfl rfl rfl x, ?_⟩)
      exact List.forall_mem_nil _
    iexists _; isplitr; · ipureintro; exact harg10.read_unread _
    iexact HS2

end Cert.KernelIdeal.Val

end
-- ==== Proof.Val.Body.lean ====
/-
The kernel's pipeline, point by point: what each window's buffer and the scratch buffers hold before and after the body.
From the first point on the first scratch buffer holds the dequantised weights; the other two hold in turn the dequantised
block of activations of the point just done, which the next point multiplies with the weights.
-/
module

public import proofs.«01_k».proof.Proof.Val.RunA
public import proofs.«01_k».proof.Proof.Val.RunB
public import proofs.«01_k».proof.Proof.Val.RunC
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem N_pos : 0 < cfg0.N := by rw [show cfg0.N = 25 from N_0]; decide

/-- The input blocks at a point. -/
abbrev xB (c : Dev nD) (t : Fin cfg0.N) : Vec F S512x2560 .bf16 := iblk m c 0 t
abbrev pB (c : Dev nD) (t : Fin cfg0.N) : Vec F S2560x2560 .i8 := iblk m c 1 t
abbrev gB (c : Dev nD) (t : Fin cfg0.N) : Vec F S20x5120 .f32 := iblk m c 2 t
abbrev sB (c : Dev nD) (t : Fin cfg0.N) : Vec F S1x5120 .f32 := iblk m c 3 t

/-- The dequantised weights the first point leaves. -/
def wDeq (c : Dev nD) : Vec F S2560x5120 .bf16 := WD (pB m c ⟨0, N_pos⟩) (gB m c ⟨0, N_pos⟩)

/-- The point before. -/
def prev (t : Fin cfg0.N) : Fin cfg0.N := ⟨t.val - 1, Nat.lt_of_le_of_lt (Nat.sub_le _ _) t.isLt⟩

/-- The block of the result a point leaves: the product of the block before. -/
def yB (c : Dev nD) (t : Fin cfg0.N) : Vec F S512x5120 .bf16 := Y (XD (xB m c (prev t))) (wDeq m c) (sB m c t)

/-- The scratch buffers before point `n`. -/
def Scratch (c : Dev nD) : (n : ℕ) → n ≤ cfg0.N → sProp (MT nD τ sig Unit (Elt F) ℕ (UR sig nD τ) ℕ)
  | 0, _ => Pipeline.ΦA spec0 c
  | n + 1, h =>
    if n % 2 = 0 then
      iprop((owns (c : Thread nD τ) scM0_0 fullShare (wDeq m c) ∗ owns (c : Thread nD τ) scM0_1 fullShare (XD (xB m c ⟨n, h⟩)) ∗ (∃ d, owns (c : Thread nD τ) scM0_2 fullShare d)) ∗ (∃ r, prngReg c r))
    else
      iprop((owns (c : Thread nD τ) scM0_0 fullShare (wDeq m c) ∗ (∃ d, owns (c : Thread nD τ) scM0_1 fullShare d) ∗ owns (c : Thread nD τ) scM0_2 fullShare (XD (xB m c ⟨n, h⟩))) ∗ (∃ r, prngReg c r))

theorem scratch_even (c : Dev nD) (n : ℕ) (h : n + 1 ≤ cfg0.N) (hn : n % 2 = 0) : Scratch m c (n + 1) h =
    iprop((owns (c : Thread nD τ) scM0_0 fullShare (wDeq m c) ∗ owns (c : Thread nD τ) scM0_1 fullShare (XD (xB m c ⟨n, h⟩)) ∗ (∃ d, owns (c : Thread nD τ) scM0_2 fullShare d)) ∗ (∃ r, prngReg c r)) := if_pos hn

theorem scratch_odd (c : Dev nD) (n : ℕ) (h : n + 1 ≤ cfg0.N) (hn : ¬ n % 2 = 0) : Scratch m c (n + 1) h =
    iprop((owns (c : Thread nD τ) scM0_0 fullShare (wDeq m c) ∗ (∃ d, owns (c : Thread nD τ) scM0_1 fullShare d) ∗ owns (c : Thread nD τ) scM0_2 fullShare (XD (xB m c ⟨n, h⟩))) ∗ (∃ r, prngReg c r)) := if_neg hn

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yB m c t
    | ⟨5, _⟩ => Codes (xB m c t)
    | ⟨6, _⟩ => Scl (xB m c t)
  Φ t := Scratch m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yB m c t := by dsimp only [dats]
theorem after0_5 (c : Dev nD) (t : Fin cfg0.N) : (dats m 0 c).after 5 t = Codes (xB m c t) := by dsimp only [dats]
theorem after0_6 (c : Dev nD) (t : Fin cfg0.N) : (dats m 0 c).after 6 t = Scl (xB m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The result's buffer at the first point, which leaves it alone. -/
theorem before0_4 (c : Dev nD) (t : Fin cfg0.N) (ht : t.val = 0) (d) : (dats m 0 c).before 4 t d = d :=
  (dats m 0 c).before_out_reset 4 rfl t (.inl ht) d

theorem flush4_0 : ∀ t : Fin cfg0.N, t.val = 0 → (cfg0.win 4).flush t = false :=
  (by decide +kernel : ∀ t : Fin grid0.N, t.val = 0 → win0_4.flush t = false)

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The windows' buffers but the result's, as every point leaves them. -/
theorem leaves_rest (c : Dev nD) (t : Fin cfg0.N) (h5 : cfg0.idle 5 (grid0.coords t) = false) (h6 : cfg0.idle 6 (grid0.coords t) = false) :
    (dats m 0 c).leavesExact 0 t = owns (c : Thread nD τ) (ms0_0 t) fullShare (xB m c t)
    ∧ (dats m 0 c).leavesExact 1 t = owns (c : Thread nD τ) (ms0_1 t) fullShare (pB m c t)
    ∧ (dats m 0 c).leavesExact 2 t = owns (c : Thread nD τ) (ms0_2 t) fullShare (gB m c t)
    ∧ (dats m 0 c).leavesExact 3 t = owns (c : Thread nD τ) (ms0_3 t) fullShare (sB m c t)
    ∧ (dats m 0 c).leavesExact 5 t = owns (c : Thread nD τ) (ms0_5 t) fullShare (Codes (xB m c t))
    ∧ (dats m 0 c).leavesExact 6 t = owns (c : Thread nD τ) (ms0_6 t) fullShare (Scl (xB m c t)) := by
  refine ⟨?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [show cfg0.idle 5 (cfg0.grid.coords t) = false from h5, after0_5]
  · unfold Dat.leavesExact; rw [show cfg0.idle 6 (cfg0.grid.coords t) = false from h6, after0_6]

theorem live5 : ∀ t : Fin cfg0.N, cfg0.idle 5 (grid0.coords t) = false :=
  (by decide +kernel : ∀ t : Fin grid0.N, idle0 5 (grid0.coords t) = false)
theorem live6 : ∀ t : Fin cfg0.N, cfg0.idle 6 (grid0.coords t) = false :=
  (by decide +kernel : ∀ t : Fin grid0.N, idle0 6 (grid0.coords t) = false)
theorem live4 : ∀ t : Fin cfg0.N, t.val ≠ 0 → cfg0.idle 4 (grid0.coords t) = false :=
  (by decide +kernel : ∀ t : Fin grid0.N, t.val ≠ 0 → idle0 4 (grid0.coords t) = false)
theorem idle4 : ∀ t : Fin cfg0.N, t.val = 0 → cfg0.idle 4 (grid0.coords t) = true :=
  (by decide +kernel : ∀ t : Fin grid0.N, t.val = 0 → idle0 4 (grid0.coords t) = true)

theorem leaves4_first (c : Dev nD) (t : Fin cfg0.N) (ht : t.val = 0) :
    (dats m 0 c).leavesExact 4 t = iprop(∃ d, owns (c : Thread nD τ) (ms0_4 t) fullShare d) := by
  rw [(dats m 0 c).leavesExact_idle 4 t (idle4 t ht) (flush4_0 t ht)]
  simp only [before0_4 m c t ht]
  rfl

theorem leaves4_later (c : Dev nD) (t : Fin cfg0.N) (ht : t.val ≠ 0) :
    (dats m 0 c).leavesExact 4 t = owns (c : Thread nD τ) (ms0_4 t) fullShare (yB m c t) := by
  unfold Dat.leavesExact; rw [show cfg0.idle 4 (cfg0.grid.coords t) = false from live4 t ht, after0_4]

set_option maxHeartbeats 2400000 in
/-- The body at the first point. -/
theorem body_first (c : Dev nD) (t : Fin cfg0.N) (ht : t.val = 0) :
    bodyPre m c t ⊢ wp frame (wpE (defs₀ (F := F)) Variants.none c none) Set.univ (bodyAt0 t) (fun _ => bodyPost m c t) := by
  have run := run_A c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) ((hcond0_0 t).mpr (by omega)) (fun h => absurd ((hcond0_1 t).mp h) (by omega)) (fun h => absurd ((hcond0_2 t).mp h) (by omega)) (xB m c t) (pB m c t) (gB m c t) (sB m c t)
  obtain ⟨e0, e1, e2, e3, e5, e6⟩ := leaves_rest m c t (live5 t) (live6 t)
  unfold bodyPre bodyPost
  rw [e0, e1, e2, e3, e5, e6, leaves4_first m c t ht]
  simp only [before0_0, before0_1, before0_2, before0_3]
  have hw : WD (pB m c t) (gB m c t) = wDeq m c := by
    obtain rfl : t = ⟨0, N_pos⟩ := Fin.ext ht
    rfl
  rw [show (dats m 0 c).Φ t.castSucc = Pipeline.ΦA spec0 c from by
      obtain rfl : t = ⟨0, N_pos⟩ := Fin.ext ht
      rfl, PhiA0_eq,
    show (dats m 0 c).Φ t.succ = iprop((owns (c : Thread nD τ) scM0_0 fullShare (wDeq m c) ∗ owns (c : Thread nD τ) scM0_1 fullShare (XD (xB m c t)) ∗ (∃ d, owns (c : Thread nD τ) scM0_2 fullShare d)) ∗ (∃ r, prngReg c r)) from
      scratch_even m c t.val t.isLt (by omega),
    show (dats m 0 c).owesAt () t.succ = (dats m 0 c).owesAt () t.castSucc from rfl]
  rw [hw] at run
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The scratch buffers before a later point, over the point before. -/
theorem scratch_prev (c : Dev nD) (t : Fin cfg0.N) (ht : t.val ≠ 0) :
    (dats m 0 c).Φ t.castSucc = Scratch m c ((prev t).val + 1) (prev t).isLt := by
  obtain ⟨n, h⟩ := t
  cases n with
  | zero => exact absurd rfl ht
  | succ n => rfl

set_option maxHeartbeats 2400000 in
/-- The body at an odd point. -/
theorem body_odd (c : Dev nD) (t : Fin cfg0.N) (ht : t.val % 2 = 1) :
    bodyPre m c t ⊢ wp frame (wpE (defs₀ (F := F)) Variants.none c none) Set.univ (bodyAt0 t) (fun _ => bodyPost m c t) := by
  have hN : t.val < 25 := lt_of_lt_of_eq t.isLt (show cfg0.N = 25 from N_0)
  have run := run_B c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) (fun h => absurd ((hcond0_0 t).mp h) (by omega)) ((hcond0_1 t).mpr ht) (fun h => absurd ((hcond0_2 t).mp h) (by omega)) (xB m c t) (pB m c t) (gB m c t) (sB m c t) (wDeq m c) (XD (xB m c (prev t)))
  obtain ⟨e0, e1, e2, e3, e5, e6⟩ := leaves_rest m c t (live5 t) (live6 t)
  unfold bodyPre bodyPost
  rw [e0, e1, e2, e3, e5, e6, leaves4_later m c t (by omega)]
  simp only [before0_0, before0_1, before0_2, before0_3]
  rw [scratch_prev m c t (by omega), scratch_even m c (prev t).val (prev t).isLt (by show (t.val - 1) % 2 = 0; omega),
    show (dats m 0 c).Φ t.succ = _ from scratch_odd m c t.val t.isLt (by omega),
    show (dats m 0 c).owesAt () t.succ = (dats m 0 c).owesAt () t.castSucc from rfl]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexists _; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The even points after the first. -/
theorem even_points : ∀ n < 25, n ≠ 0 → n % 2 = 0 → (n % 25 = 2 ∨ n % 25 = 4 ∨ n % 25 = 6 ∨ n % 25 = 8 ∨ n % 25 = 10 ∨ n % 25 = 12 ∨ n % 25 = 14 ∨ n % 25 = 16 ∨ n % 25 = 18 ∨ n % 25 = 20 ∨ n % 25 = 22 ∨ n % 25 = 24) := by
  intro n h h0 h2
  rw [Nat.mod_eq_of_lt h]
  omega

set_option maxHeartbeats 2400000 in
/-- The body at an even point after the first. -/
theorem body_even (c : Dev nD) (t : Fin cfg0.N) (h0 : t.val ≠ 0) (ht : t.val % 2 = 0) :
    bodyPre m c t ⊢ wp frame (wpE (defs₀ (F := F)) Variants.none c none) Set.univ (bodyAt0 t) (fun _ => bodyPost m c t) := by
  have hN : t.val < 25 := lt_of_lt_of_eq t.isLt (show cfg0.N = 25 from N_0)
  have run := run_C c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) scM0_2 (Memref.isWhole_whole _) (fun h => absurd ((hcond0_0 t).mp h) (by omega)) (fun h => absurd ((hcond0_1 t).mp h) (by omega)) ((hcond0_2 t).mpr (even_points t.val hN h0 ht)) (xB m c t) (pB m c t) (gB m c t) (sB m c t) (wDeq m c) (XD (xB m c (prev t)))
  obtain ⟨e0, e1, e2, e3, e5, e6⟩ := leaves_rest m c t (live5 t) (live6 t)
  unfold bodyPre bodyPost
  rw [e0, e1, e2, e3, e5, e6, leaves4_later m c t h0]
  simp only [before0_0, before0_1, before0_2, before0_3]
  rw [scratch_prev m c t h0, scratch_odd m c (prev t).val (prev t).isLt (by show ¬ (t.val - 1) % 2 = 0; omega),
    show (dats m 0 c).Φ t.succ = _ from scratch_even m c t.val t.isLt ht,
    show (dats m 0 c).owesAt () t.succ = (dats m 0 c).owesAt () t.castSucc from rfl]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (run Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]
      · iexact HS0
      isplitl [HS1]
      · iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h1 : t.val % 2 = 1
  · exact body_odd m c t h1
  exact body_even m c t h0 (by omega)

/-- The body table's row at a point's slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch buffers hold something. -/
theorem scratch_last (c : Dev nD) : (dats m 0 c).Φ (Fin.last cfg0.N) ⊢ (Pipeline.ΦA spec0 c : sProp (MT nD τ sig Unit (Elt F) ℕ (UR sig nD τ) ℕ)) := by
  rw [PhiA0_eq, show (dats m 0 c).Φ (Fin.last cfg0.N) = _ from scratch_even m c 24 (by rw [show cfg0.N = 25 from N_0]) rfl]
  iintro ⟨⟨HS0, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
/-- The run: every array of the pipeline ends as its proof data says, and every semaphore counter is zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := scratch_last m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Val

end
-- ==== Proof.Val.Transfer.lean ====
/-
The kernel and its idealization are the same program: no operation was rewritten between them. So a run of the one, at any
floats, is a run of the other.
-/
module

public import proofs.«01_k».proof.Defs
public import proofs.«01_k».proof.Proof.Gen.KernelIdeal.Frame
public import proofs.«01_k».proof.Proof.Gen.Kernel.Frame

@[expose] public section

set_option maxRecDepth 100000
set_option maxHeartbeats 1000000

namespace Cert.KernelIdeal.Val

open Idealize.ShloMosaic

variable {F : FTy → Type} [FloatOps F]

theorem main_same (c : Dev 1) : Cert.Kernel.main (F := F) c = Cert.KernelIdeal.main (F := F) c := rfl

theorem body_same : Cert.Kernel.cc0_w4a8 (F := F) = Cert.KernelIdeal.cc0_w4a8 (F := F) := rfl

theorem defs₀_same : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun a => by obtain ⟨t, s⟩ := a; dsimp only; rw [body_same]; rfl

theorem defs_same : Cert.Kernel.defs (F := F) = Cert.KernelIdeal.defs (F := F) :=
  congrArg (Pipeline.defs Cert.KernelIdeal.pcfgs) defs₀_same

/-- A run of the idealization is a run of the kernel. -/
theorem run_same (m : (ℓ : Loc Cert.Kernel.nD Cert.Kernel.τ Cert.Kernel.sig) → Buf (Elt F) ℓ) (ρ : Dev Cert.Kernel.nD → PrngReg) (Q)
    (h : θ_run Cert.KernelIdeal.defs (onTc (τ := Cert.KernelIdeal.τ) (Cert.KernelIdeal.main (F := F))) ⟨m, fun _ => 0, ρ⟩ Q) :
    θ_run Cert.Kernel.defs (onTc (τ := Cert.Kernel.τ) (Cert.Kernel.main (F := F))) ⟨m, fun _ => 0, ρ⟩ Q := by
  have e : Cert.Kernel.main (F := F) = Cert.KernelIdeal.main (F := F) := funext fun c => main_same c
  rw [defs_same, e]; exact h

end Cert.KernelIdeal.Val

end
-- ==== Proof.Val.Num.lean ====
/-
The numbers behind the scale of one group, over the extended reals. The kernel finds the exponent field of a positive `t`
as the largest word `k << 23` whose reading as an f32 is not above `t`, and builds the scale and its inverse from that word;
the reference takes the floor of the binary logarithm. On zero and on every `t` between `2 ^ (-126)` and `2 ^ 120` both are
the same powers of two.
-/
module

public import Idealize.ShloMosaic.PureOps
public import Idealize.ShloMosaic.PureOps.Ideal
public import Idealize.ShloMosaic.PureOps.Ideal.Laws

@[expose] public section

noncomputable section

namespace Cert.Num

open Idealize.ShloMosaic

/-- The word `k << 23` read as an f32: zero, the infinity, or a power of two. -/
theorem pow_word (k : ℕ) (hk : k < 256) : Ideal.ofBits .f32 (BitVec.ofNat 32 (k * 8388608))
    = if k = 0 then 0 else if k = 255 then ⊤ else (((2 : ℝ) ^ ((k : ℤ) - 127) : ℝ) : EReal) := by
  have e1 : (BitVec.ofNat 32 (k * 8388608)).toNat = k * 8388608 := by rw [BitVec.toNat_ofNat]; omega
  have hex : ((BitVec.ofNat 32 (k * 8388608)).extractLsb' 23 8).toNat = k := by
    rw [BitVec.extractLsb'_toNat, e1, Nat.shiftRight_eq_div_pow]; omega
  have hfr : ((BitVec.ofNat 32 (k * 8388608)).extractLsb' 0 23).toNat = 0 := by
    rw [BitVec.extractLsb'_toNat, e1, Nat.shiftRight_eq_div_pow]; omega
  have hneg : ((BitVec.ofNat 32 (k * 8388608)).extractLsb' (8 + 23) 1 == 1#1) = false := by
    have : ((BitVec.ofNat 32 (k * 8388608)).extractLsb' (8 + 23) 1) = 0#1 := by
      apply BitVec.eq_of_toNat_eq
      rw [BitVec.extractLsb'_toNat, e1, Nat.shiftRight_eq_div_pow]
      show _ = 0
      omega
    rw [this]; rfl
  show Ideal.ieee 8 23 _ = _
  unfold Ideal.ieee
  simp only [hex, hfr, hneg]
  by_cases h0 : k = 0
  · subst h0; simp
  by_cases h1 : k = 255
  · subst h1; simp
  rw [if_neg (by omega), if_neg h0, if_neg h0, if_neg h1]
  congr 1
  have : ((k : ℤ) - (2 ^ (8 - 1) - 1) - (23 : ℕ)) = ((k : ℤ) - 127) - 23 := by norm_num
  rw [this, zpow_sub₀ (by norm_num : (2 : ℝ) ≠ 0)]
  norm_num
  ring

/-- The factor 1 / 448, as its f32 word says it. -/
theorem factor : Ideal.ofBits .f32 0x3B124925#32 = ((9586981 / 4294967296 : ℝ) : EReal) := by
  simp [Ideal.ofBits, Ideal.ieee, -EReal.coe_mul]; norm_num

theorem one_word : Ideal.ofBits .f32 0x3F800000#32 = 1 := by simp [Ideal.ofBits, Ideal.ieee, -EReal.coe_mul]; norm_num
theorem zero_word : Ideal.ofBits .f32 0x00000000#32 = 0 := by simp [Ideal.ofBits, Ideal.ieee]
theorem least_word : Ideal.ofBits .f32 0x00800000#32 = (((2 : ℝ) ^ (-126 : ℤ) : ℝ) : EReal) := by
  simp [Ideal.ofBits, Ideal.ieee, -EReal.coe_mul]; norm_num
theorem most_word : Ideal.ofBits .f32 0x7F7F0000#32 = ((255 * (2 : ℝ) ^ (120 : ℕ) : ℝ) : EReal) := by
  simp [Ideal.ofBits, Ideal.ieee, -EReal.coe_mul]; norm_num

/-! ## The largest field -/

theorem toInt_maxsi (x y : BitVec 32) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

theorem toInt_field (k : ℕ) (hk : k < 256) : (BitVec.ofNat 32 (k * 8388608)).toInt = k * 8388608 := by
  have e : (BitVec.ofNat 32 (k * 8388608)).toNat = k * 8388608 := by rw [BitVec.toNat_ofNat]; omega
  rw [BitVec.toInt_eq_toNat_cond, e, if_pos (by omega)]
  push_cast
  rfl

/-- The maximum of the fields up to `K` is field `K`. -/
theorem field_fold (K : ℕ) (hK : K < 256) (f : Fin 256 → BitVec 32)
    (hf : ∀ l, f l = if l.val ≤ K then BitVec.ofNat 32 (l.val * 8388608) else 0#32) :
    (Finset.univ : Finset (Fin 256)).fold IntOp.maxsi 2147483648#32 f = BitVec.ofNat 32 (K * 8388608) := by
  apply BitVec.eq_of_toInt_eq
  rw [← Finset.fold_hom (op' := max) (m := BitVec.toInt) toInt_maxsi, toInt_field K hK]
  have hfi : ∀ l, (f l).toInt = if l.val ≤ K then (l.val * 8388608 : ℤ) else 0 := fun l => by
    rw [hf l]; split
    · exact toInt_field _ l.isLt
    · rfl
  apply le_antisymm
  · rw [Finset.fold_max_le]
    refine ⟨by show (-2147483648 : ℤ) ≤ _; omega, fun l _ => ?_⟩
    rw [hfi l]; split <;> omega
  · rw [Finset.le_fold_max]
    refine .inr ⟨⟨K, hK⟩, Finset.mem_univ _, ?_⟩
    rw [hfi]; simp

/-- The kernel's exponent field of `t`. -/
def fieldOf (t : EReal) : BitVec 32 :=
  (Finset.univ : Finset (Fin 256)).fold IntOp.maxsi 2147483648#32 fun l =>
    Scalar.select (Ideal.cmp .ole (Ideal.ofBits .f32 (IntOp.shli .vector (BitVec.ofNat 32 l.val) 23#32)) t)
      (IntOp.shli .vector (BitVec.ofNat 32 l.val) 23#32) 0#32

theorem shift_field (k : ℕ) (hk : k < 256) : IntOp.shli .vector (BitVec.ofNat 32 k) 23#32 = BitVec.ofNat 32 (k * 8388608) := by
  unfold IntOp.shli
  rw [if_pos (by decide)]
  apply BitVec.eq_of_toNat_eq
  simp [BitVec.toNat_shiftLeft, Nat.shiftLeft_eq]

theorem fieldOf_eq (t : EReal) (K : ℕ) (hK : K < 256)
    (h : ∀ l < 256, Ideal.ofBits .f32 (BitVec.ofNat 32 (l * 8388608)) ≤ t ↔ l ≤ K) : fieldOf t = BitVec.ofNat 32 (K * 8388608) := by
  refine field_fold K hK _ fun l => ?_
  rw [shift_field l.val l.isLt]
  unfold Scalar.select Ideal.cmp
  have := h l.val l.isLt
  by_cases hl : l.val ≤ K
  · rw [if_pos hl]; simp [this.mpr hl]
  · rw [if_neg hl]
    have h' := mt this.mp hl
    simp [h']

theorem fieldOf_zero : fieldOf 0 = 0#32 := by
  refine (fieldOf_eq 0 0 (by decide) fun l hl => ?_)
  rw [pow_word l hl]
  by_cases h0 : l = 0
  · simp [h0]
  rw [if_neg h0]
  by_cases h1 : l = 255
  · simp [h1]
  rw [if_neg h1]
  constructor
  · intro h
    have h2 : ((2 : ℝ) ^ ((l : ℤ) - 127)) ≤ 0 := by exact_mod_cast h
    have : (0 : ℝ) < (2 : ℝ) ^ ((l : ℤ) - 127) := by positivity
    linarith
  · intro h; omega

/-- The exponent field of a real in range is that of the power of two below. -/
theorem fieldOf_real (r : ℝ) (n : ℤ) (hn : -126 ≤ n) (hn' : n ≤ 126) (h1 : (2 : ℝ) ^ n ≤ r) (h2 : r < (2 : ℝ) ^ (n + 1)) :
    fieldOf (r : EReal) = BitVec.ofNat 32 ((n + 127).toNat * 8388608) := by
  have hr : 0 < r := lt_of_lt_of_le (by positivity) h1
  refine fieldOf_eq _ _ (by omega) fun l hl => ?_
  rw [pow_word l hl]
  by_cases h0 : l = 0
  · simp [h0, hr.le]
  rw [if_neg h0]
  by_cases h255 : l = 255
  · rw [if_pos h255]; simp; omega
  rw [if_neg h255, EReal.coe_le_coe_iff]
  constructor
  · intro h
    have := lt_of_le_of_lt h h2
    rw [zpow_lt_zpow_iff_right₀ (by norm_num)] at this
    omega
  · intro h
    refine le_trans ?_ h1
    rw [zpow_le_zpow_iff_right₀ (by norm_num)]
    omega

/-! ## The scale and its inverse -/

/-- The kernel's scale from an exponent field. -/
def kScl (e : BitVec 32) : EReal :=
  Scalar.select (IntOp.cmpi .ne e 0#32) (Ideal.ofBits .f32 (IntOp.addi e 8388608#32)) (Ideal.ofBits .f32 0x3F800000#32)

/-- The kernel's inverse of the scale. -/
def kInv (e : BitVec 32) : EReal :=
  Scalar.select (IntOp.cmpi .ne e 0#32) (Ideal.ofBits .f32 (IntOp.subi 2122317824#32 e)) (Ideal.ofBits .f32 0x3F800000#32)

/-- The reference's exponent of a group whose largest magnitude is `a`. -/
def rExp (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3B124925#32)) ((Real.log 2 : ℝ) : EReal))
      + Ideal.ofBits .f32 0x3F800000#32)

/-- The range of the largest magnitude of a group that the claim is about. -/
def InRange (a : EReal) : Prop :=
  a = 0 ∨ (Ideal.ofBits .f32 0x00800000#32 ≤ a * Ideal.ofBits .f32 0x3B124925#32 ∧ a ≤ Ideal.ofBits .f32 0x7F7F0000#32)

/-- A power of two as an exponential. -/
theorem zpow_exp (n : ℤ) : (2 : ℝ) ^ n = Real.exp (Real.log 2 * (n : ℝ)) := by
  rw [← Real.rpow_intCast, Real.rpow_def_of_pos (by norm_num)]

/-- The floor of the binary logarithm names the power of two below. -/
theorem floor_bounds (r : ℝ) (h : 0 < r) : (2 : ℝ) ^ ⌊Real.log r / Real.log 2⌋ ≤ r ∧ r < (2 : ℝ) ^ (⌊Real.log r / Real.log 2⌋ + 1) := by
  have hl : 0 < Real.log 2 := Real.log_pos (by norm_num)
  have h1 := Int.floor_le (Real.log r / Real.log 2)
  have h2 := Int.lt_floor_add_one (Real.log r / Real.log 2)
  rw [le_div_iff₀ hl] at h1
  rw [div_lt_iff₀ hl] at h2
  rw [zpow_exp, zpow_exp]
  constructor
  · rw [← Real.le_log_iff_exp_le h]; linarith
  · rw [← Real.log_lt_iff_lt_exp h]; push_cast; linarith

/-- In range, the largest magnitude over 448 is a real between two neighbouring powers of two. -/
theorem real_of_inRange (a : EReal) (h : Ideal.ofBits .f32 0x00800000#32 ≤ a * Ideal.ofBits .f32 0x3B124925#32)
    (h' : a ≤ Ideal.ofBits .f32 0x7F7F0000#32) :
    a ≠ 0 ∧ ∃ (r : ℝ) (n : ℤ), a * Ideal.ofBits .f32 0x3B124925#32 = (r : EReal) ∧ 0 < r ∧ -126 ≤ n ∧ n ≤ 120 ∧ (2 : ℝ) ^ n ≤ r ∧ r < (2 : ℝ) ^ (n + 1)
      ∧ n = ⌊Real.log r / Real.log 2⌋ := by
  rw [least_word, factor] at h
  rw [most_word] at h'
  rw [factor]
  induction a using EReal.rec with
  | bot =>
    rw [EReal.bot_mul_coe_of_pos (by norm_num)] at h
    exact absurd h (by simp)
  | top => exact absurd h' (not_le.mpr (EReal.coe_lt_top _))
  | coe a =>
    rw [← EReal.coe_mul, EReal.coe_le_coe_iff] at h
    rw [EReal.coe_le_coe_iff] at h'
    set r : ℝ := a * (9586981 / 4294967296) with hr
    have hr0 : 0 < r := lt_of_lt_of_le (by positivity) h
    have ha : a ≠ 0 := by rintro rfl; simp [hr] at hr0
    have hlt : r < (2 : ℝ) ^ (120 : ℤ) := by
      have : (2 : ℝ) ^ (120 : ℤ) = (2 : ℝ) ^ (120 : ℕ) := by norm_cast
      rw [this, hr]
      have hp : (0 : ℝ) < (2 : ℝ) ^ (120 : ℕ) := by positivity
      nlinarith
    obtain ⟨hb1, hb2⟩ := floor_bounds r hr0
    refine ⟨by exact_mod_cast ha, r, ⌊Real.log r / Real.log 2⌋, by rw [EReal.coe_mul], hr0, ?_, ?_, hb1, hb2, rfl⟩
    · have := lt_of_le_of_lt h hb2
      rw [zpow_lt_zpow_iff_right₀ (by norm_num)] at this
      omega
    · have := lt_of_le_of_lt hb1 hlt
      rw [zpow_lt_zpow_iff_right₀ (by norm_num)] at this
      omega

theorem rExp_zero : rExp 0 = 0 := by
  unfold rExp Scalar.select Ideal.cmp
  rw [zero_word]; simp

theorem rExp_real (a : EReal) (ha : a ≠ 0) (r : ℝ) (n : ℤ) (hr : a * Ideal.ofBits .f32 0x3B124925#32 = (r : EReal)) (h0 : 0 < r)
    (hn : n = ⌊Real.log r / Real.log 2⌋) : rExp a = (((n + 1 : ℤ) : ℝ) : EReal) := by
  unfold rExp Scalar.select Ideal.cmp
  rw [hr, zero_word, one_word]
  have hl : Real.log 2 ≠ 0 := by positivity
  simp only [ha, decide_false, BitVec.ofBool_false, Ideal.log_coe, if_neg (not_le.mpr h0)]
  rw [if_neg (by decide)]
  have : Ideal.div (Real.log r : EReal) ((Real.log 2 : ℝ) : EReal) = ((Real.log r / Real.log 2 : ℝ) : EReal) := by
    unfold Ideal.div
    rw [if_neg (by exact_mod_cast hl), ← EReal.coe_inv, ← EReal.coe_mul, div_eq_mul_inv]
  rw [this]
  show (((⌊Real.log r / Real.log 2⌋ : ℤ) : ℝ) : EReal) + 1 = _
  rw [← hn]
  push_cast
  rfl

/-- The kernel's scale is the reference's. -/
theorem scl_eq (a : EReal) (h : InRange a) :
    kScl (fieldOf (a * Ideal.ofBits .f32 0x3B124925#32)) = Ideal.exp2 (rExp a) := by
  rcases h with rfl | ⟨h1, h2⟩
  · rw [zero_mul, fieldOf_zero, rExp_zero]
    unfold kScl
    rw [show IntOp.cmpi .ne (0#32) 0#32 = 0#1 from rfl, one_word]
    show (1 : EReal) = Ideal.exp2 ((0 : ℝ) : EReal)
    rw [Ideal.exp2_coe]; simp
  · obtain ⟨ha, r, n, hr, h0, hn1, hn2, hb1, hb2, hn⟩ := real_of_inRange a h1 h2
    rw [rExp_real a ha r n hr h0 hn, hr, fieldOf_real r n hn1 (by omega) hb1 hb2, Ideal.exp2_coe]
    unfold kScl
    have e : IntOp.addi (BitVec.ofNat 32 ((n + 127).toNat * 8388608)) 8388608#32 = BitVec.ofNat 32 (((n + 127).toNat + 1) * 8388608) := by
      show _ + _ = _
      apply BitVec.eq_of_toNat_eq
      rw [BitVec.toNat_add, BitVec.toNat_ofNat, BitVec.toNat_ofNat, BitVec.toNat_ofNat]; omega
    have ne : IntOp.cmpi .ne (BitVec.ofNat 32 ((n + 127).toNat * 8388608)) 0#32 = 1#1 := by
      have : BitVec.ofNat 32 ((n + 127).toNat * 8388608) ≠ 0#32 := fun h => by
        have := congrArg BitVec.toNat h
        rw [BitVec.toNat_ofNat] at this
        simp at this
        omega
      show BitVec.ofBool (_ != _) = 1#1
      rw [bne_iff_ne.mpr this]
      rfl
    rw [ne, e, pow_word _ (by omega), if_neg (by omega), if_neg (by omega)]
    show (((2 : ℝ) ^ _ : ℝ) : EReal) = _
    congr 1
    show _ = (2 : ℝ) ^ (((n + 1 : ℤ) : ℝ))
    rw [Real.rpow_intCast]
    congr 1
    omega

/-- The kernel's inverse of the scale is the reference's. -/
theorem inv_eq (a : EReal) (h : InRange a) :
    kInv (fieldOf (a * Ideal.ofBits .f32 0x3B124925#32)) = Ideal.exp2 (Ideal.ofBits .f32 0x00000000#32 - rExp a) := by
  rw [zero_word]
  rcases h with rfl | ⟨h1, h2⟩
  · rw [zero_mul, fieldOf_zero, rExp_zero]
    unfold kInv
    rw [show IntOp.cmpi .ne (0#32) 0#32 = 0#1 from rfl, one_word, sub_zero]
    show (1 : EReal) = Ideal.exp2 ((0 : ℝ) : EReal)
    rw [Ideal.exp2_coe]; simp
  · obtain ⟨ha, r, n, hr, h0, hn1, hn2, hb1, hb2, hn⟩ := real_of_inRange a h1 h2
    rw [rExp_real a ha r n hr h0 hn, hr, fieldOf_real r n hn1 (by omega) hb1 hb2]
    have hz : (0 : EReal) - (((n + 1 : ℤ) : ℝ) : EReal) = (((-(n + 1) : ℤ) : ℝ) : EReal) := by
      rw [zero_sub, ← EReal.coe_neg]; push_cast; rfl
    rw [hz, Ideal.exp2_coe]
    unfold kInv
    have e : IntOp.subi 2122317824#32 (BitVec.ofNat 32 ((n + 127).toNat * 8388608)) = BitVec.ofNat 32 ((126 - n).toNat * 8388608) := by
      show _ - _ = _
      apply BitVec.eq_of_toNat_eq
      rw [BitVec.toNat_sub, BitVec.toNat_ofNat, BitVec.toNat_ofNat, BitVec.toNat_ofNat]; omega
    have ne : IntOp.cmpi .ne (BitVec.ofNat 32 ((n + 127).toNat * 8388608)) 0#32 = 1#1 := by
      have : BitVec.ofNat 32 ((n + 127).toNat * 8388608) ≠ 0#32 := fun h => by
        have := congrArg BitVec.toNat h
        rw [BitVec.toNat_ofNat] at this
        simp at this
        omega
      show BitVec.ofBool (_ != _) = 1#1
      rw [bne_iff_ne.mpr this]
      rfl
    rw [ne, e, pow_word _ (by omega), if_neg (by omega), if_neg (by omega)]
    show (((2 : ℝ) ^ _ : ℝ) : EReal) = _
    congr 1
    show _ = (2 : ℝ) ^ (((-(n + 1) : ℤ) : ℝ))
    rw [Real.rpow_intCast]
    congr 1
    omega

/-! ## One group -/

/-- The largest magnitude of a group. -/
def amax (f : Fin 128 → EReal) : EReal :=
  (Finset.univ : Finset (Fin 128)).fold max (Ideal.ofBits .f32 0xFF800000#32) fun k => max (f k) (-(f k))

/-- A quotient clipped to ±448. -/
def clip (x : EReal) : EReal := min (Ideal.ofBits .f32 0x43E00000#32) (max (Ideal.ofBits .f32 0xC3E00000#32) x)

/-- The largest magnitude over 448. -/
def over (f : Fin 128 → EReal) : EReal := amax f * Ideal.ofBits .f32 0x3B124925#32

end Cert.Num

end
-- ==== Proof.Val.Ref.lean ====
/-
The reference over the extended reals: its scales, codes and dequantised codes at a place, in the numbers of `Num`.
-/
module

public import proofs.«01_k».proof.Proof.Gen.ReferenceIdeal.Value
public import proofs.«01_k».proof.Proof.Val.Num
public import Idealize.ShloMosaic.PureOps.Ideal.Laws
public import Idealize.ShloMosaic.PureOps.Reduce
public import Idealize.ShloMosaic.Lib.ValueIdxCoords
public import Idealize.ShloMosaic.Lib.Pipeline.Value

@[expose] public section

set_option maxRecDepth 16384

noncomputable section

namespace Cert.ReferenceIdeal.Val

open Idealize.ShloMosaic Idealize.ShloMosaic.TcCoe Idealize.ShloMosaic.ValueIdx
open Cert.ReferenceIdeal Cert.ReferenceIdeal.Gen Cert.Num

variable (X : Vec Ideal S12288x2560 .bf16)

/-- The values of group `g` of row `r`. -/
def gRow (r : Fin 12288) (g : Fin 20) : Fin 128 → EReal := fun k =>
  X (ix2 r (⟨128 * g.val + k.val, by have := g.isLt; have := k.isLt; omega⟩ : Fin 2560))

theorem pay2_at (r : Fin 12288) (g : Fin 20) (k : Fin 128) : k0_pay2 X (ix3 r g k) = gRow X r g k := by
  unfold k0_pay2
  rw [shapeCast_apply _ _ _ (ix2 r (⟨128 * g.val + k.val, by have := g.isLt; have := k.isLt; omega⟩ : Fin 2560)) (by
    rw [Shape.rowMajor_val_two, Shape.rowMajor_val_three]
    show r.val * 2560 + (128 * g.val + k.val) = (r.val * 20 + g.val) * 128 + k.val
    omega), shapeCast_self]
  rfl

theorem lift_at (r : Fin 12288) (g : Fin 20) (k : Fin 128) : reduces_S12288x20x128_S12288x20.lift (ix2 r g) k = ix3 r g k := by
  funext a
  match a with
  | ⟨0, _⟩ => rfl
  | ⟨1, _⟩ => rfl
  | ⟨2, _⟩ => rfl

theorem amax_at (r : Fin 12288) (g : Fin 20) :
    multiReduction .maximumf [2] S12288x20 (absf (k0_pay2 X)) 0xFF800000#32 reduces_S12288x20x128_S12288x20 (.inl rfl) rfl (ix2 r g)
      = amax (gRow X r g) := by
  refine (Ideal.multiReduction_maximumf_single _ _ reduces_S12288x20x128_S12288x20 (.inl rfl) rfl (ix2 r g)).trans ?_
  refine Finset.fold_congr fun (k : Fin 128) _ => ?_
  show max (k0_pay2 X (reduces_S12288x20x128_S12288x20.lift (ix2 r g) k)) (-(k0_pay2 X (reduces_S12288x20x128_S12288x20.lift (ix2 r g) k))) = _
  rw [lift_at r g k, pay2_at]

theorem ln2 : (Named.named (F := Ideal) κ "ln2" 0x3F317218#32 : Ideal .f32) = ((Real.log 2 : ℝ) : EReal) := by
  show (κ "ln2").getD (Ideal.ofBits .f32 _) = _
  rfl

/-- The reference's exponent from its largest magnitudes. -/
theorem exp_at (a : FVec Ideal S12288x20 .f32) (i : S12288x20.Idx) (l : Ideal .f32) (hl : l = ((Real.log 2 : ℝ) : EReal)) :
    select (cmpf .oeq a (broadcast S12288x20 (Scalar.ofBits .f32 0x00000000#32))) (broadcast S12288x20 (Scalar.ofBits .f32 0x00000000#32))
      (addf (floor (divf (log (mulf a (broadcast S12288x20 (Scalar.ofBits .f32 0x3B124925#32)))) (broadcast S12288x20 l)))
        (broadcast S12288x20 (Scalar.ofBits .f32 0x3F800000#32))) i = rExp (a i) := by
  subst hl; rfl

theorem pay3_at (r : Fin 12288) (g : Fin 20) : k0_pay3 X (ix2 r g) = rExp (amax (gRow X r g)) := by
  rw [← amax_at]
  exact exp_at _ _ _ ln2

theorem exp2_at (a : FVec Ideal S12288x20 .f32) (i : S12288x20.Idx) : exp2 a i = Ideal.exp2 (a i) := rfl

theorem pay4_at (r : Fin 12288) (g : Fin 20) : k0_pay4 X (ix2 r g) = Ideal.exp2 (rExp (amax (gRow X r g))) := by
  rw [← pay3_at]
  exact exp2_at _ _

theorem spread (x : FVec Ideal S12288x20 .f32) (r : Fin 12288) (g : Fin 20) (k : Fin 128) :
    broadcastTo S12288x20x128 (shapeCast S12288x20x1 x shapeCasts_S12288x20_S12288x20x1) broadcasts_S12288x20x1_S12288x20x128 (ix3 r g k)
      = x (ix2 r g) := by
  rw [broadcastTo_apply _ _ _ (ix3 r g (0 : Fin 1)) (fun a => by
    match a with
    | ⟨0, _⟩ => rfl
    | ⟨1, _⟩ => rfl
    | ⟨2, _⟩ => rfl)]
  refine shapeCast_apply _ _ _ _ ?_
  rw [Shape.rowMajor_val_two, Shape.rowMajor_val_three]
  show r.val * 20 + g.val = (r.val * 20 + g.val) * 1 + 0
  omega

theorem code_at (x s : FVec Ideal S12288x20x128 .f32) (i : S12288x20x128.Idx) :
    truncf .fp8e4m3 (minimumf (broadcast S12288x20x128 (Scalar.ofBits .f32 0x43E00000#32))
      (maximumf (broadcast S12288x20x128 (Scalar.ofBits .f32 0xC3E00000#32)) (mulf x s))) bitsLt_fp8e4m3_f32 i = clip (x i * s i) := rfl

theorem neg_at (a : FVec Ideal S12288x20 .f32) (i : S12288x20.Idx) :
    exp2 (subf (broadcast S12288x20 (Scalar.ofBits .f32 0x00000000#32)) a) i = Ideal.exp2 (Ideal.ofBits .f32 0x00000000#32 - a i) := rfl

theorem pay5_at (r : Fin 12288) (g : Fin 20) (k : Fin 128) :
    k0_pay5 X (ix3 r g k) = clip (gRow X r g k * Ideal.exp2 (Ideal.ofBits .f32 0x00000000#32 - rExp (amax (gRow X r g)))) := by
  rw [← pay3_at, ← pay2_at]
  exact (code_at _ _ _).trans (congrArg clip (congrArg₂ (· * ·) rfl ((spread _ r g k).trans (neg_at _ _))))

/-- The group of a column, and its place in the group. -/
def gOf (y : Fin 2560) : Fin 20 := ⟨y.val / 128, by have := y.isLt; omega⟩
def kOf (y : Fin 2560) : Fin 128 := ⟨y.val % 128, Nat.mod_lt _ (by decide)⟩

theorem flat {α : Type} (x : S12288x20x128.Idx → α) (r : Fin 12288) (y : Fin 2560) :
    shapeCast S12288x2560 x shapeCasts_S12288x20x128_S12288x2560 (ix2 r y) = x (ix3 r (gOf y) (kOf y)) := by
  refine shapeCast_apply _ _ _ _ ?_
  rw [Shape.rowMajor_val_two, Shape.rowMajor_val_three]
  show (r.val * 20 + y.val / 128) * 128 + y.val % 128 = r.val * 2560 + y.val
  omega

theorem pay6_at (r : Fin 12288) (y : Fin 2560) :
    k0_pay6 X (ix2 r y) = clip (gRow X r (gOf y) (kOf y) * Ideal.exp2 (Ideal.ofBits .f32 0x00000000#32 - rExp (amax (gRow X r (gOf y))))) := by
  rw [← pay5_at]
  exact flat (k0_pay5 X) r y

end Cert.ReferenceIdeal.Val

end
-- ==== Proof.Val.Pre.lean ====
/-
What the precondition says of the activations: every group's largest magnitude is zero or in range.
-/
module

public import proofs.«01_k».proof.Defs
public import proofs.«01_k».proof.Proof.Val.Ref

@[expose] public section

set_option maxRecDepth 16384

noncomputable section

namespace Cert.Pre_in_range

open Idealize.ShloMosaic Idealize.ShloMosaic.ValueIdx
open Cert.Num
open Cert.ReferenceIdeal.Val (gRow)

theorem reduces : S3x4096x20x128.Reduces [3] S3x4096x20 := by decide

instance facts : Facts where
  bitsLt_bf16_f32 := by decide
  shapeCasts_S3x4096x2560_S3x4096x20x128 := by decide
  reducesTo_S3x4096x20x128_S3x4096x20_d3 := by decide
  h_S_ := by decide
  bcast_S_S3x4096x20 := by decide

/-- The two comparisons on one group's largest magnitude, as a proposition. -/
theorem holds_iff (a : EReal)
    (h : IntOp.ori (Ideal.cmp .oeq a (Ideal.ofBits .f32 0x00000000#32))
      (IntOp.andi (Ideal.cmp .oge (a * Ideal.ofBits .f32 0x3B124925#32) (Ideal.ofBits .f32 0x00800000#32)) (Ideal.cmp .ole a (Ideal.ofBits .f32 0x7F7F0000#32))) = 1#1) :
    InRange a := by
  rw [zero_word] at h
  unfold InRange
  by_cases h0 : a = 0
  · exact .inl h0
  · refine .inr ?_
    by_cases h1 : Ideal.ofBits .f32 0x00800000#32 ≤ a * Ideal.ofBits .f32 0x3B124925#32
    · by_cases h2 : a ≤ Ideal.ofBits .f32 0x7F7F0000#32
      · exact ⟨h1, h2⟩
      · simp [Ideal.cmp, IntOp.ori, IntOp.andi, h0, h1, h2] at h
    · simp [Ideal.cmp, IntOp.ori, IntOp.andi, h0, h1] at h

variable (x : FVec Ideal S3x4096x2560 .bf16) (hx : S3x4096x2560.ShapeCasts Cert.ReferenceIdeal.S12288x2560)

/-- The batch and the sequence position of a row. -/
def bOf (r : Fin 12288) : Fin 3 := ⟨r.val / 4096, by have := r.isLt; omega⟩
def sOf (r : Fin 12288) : Fin 4096 := ⟨r.val % 4096, Nat.mod_lt _ (by decide)⟩

theorem place (r : Fin 12288) (g : Fin 20) (k : Fin 128) :
    shapeCast S3x4096x20x128 (extf .f32 x Facts.bitsLt_bf16_f32 : FVec Ideal S3x4096x2560 .f32) Facts.shapeCasts_S3x4096x2560_S3x4096x20x128 (ix4 (bOf r) (sOf r) g k)
      = gRow (shapeCast Cert.ReferenceIdeal.S12288x2560 x hx) r g k := by
  have hg := g.isLt
  have hk := k.isLt
  have hr := r.isLt
  unfold gRow
  rw [shapeCast_apply _ _ _ (ix3 (bOf r) (sOf r) (⟨128 * g.val + k.val, by omega⟩ : Fin 2560)) (by
    rw [Shape.rowMajor_val_three, Shape.rowMajor_val_four]
    show ((r.val / 4096) * 4096 + r.val % 4096) * 2560 + (128 * g.val + k.val) = (((r.val / 4096) * 4096 + r.val % 4096) * 20 + g.val) * 128 + k.val
    omega)]
  symm
  refine shapeCast_apply _ _ _ _ ?_
  rw [Shape.rowMajor_val_two, Shape.rowMajor_val_three]
  show ((r.val / 4096) * 4096 + r.val % 4096) * 2560 + (128 * g.val + k.val) = r.val * 2560 + (128 * g.val + k.val)
  omega

theorem lift_at (b : Fin 3) (s : Fin 4096) (g : Fin 20) (k : Fin 128) : reduces.lift (ix3 b s g) k = ix4 b s g k := by
  funext a
  match a with
  | ⟨0, _⟩ => rfl
  | ⟨1, _⟩ => rfl
  | ⟨2, _⟩ => rfl
  | ⟨3, _⟩ => rfl

theorem amax_at (r : Fin 12288) (g : Fin 20) :
    Host.reduce (FloatOps.maximumf (F := Ideal) (φ := .f32))
      (Host.absf (shapeCast S3x4096x20x128 (extf .f32 x Facts.bitsLt_bf16_f32 : FVec Ideal S3x4096x2560 .f32) Facts.shapeCasts_S3x4096x2560_S3x4096x20x128))
      (constant S_ .f32 0xFF800000#32) Facts.reducesTo_S3x4096x20x128_S3x4096x20_d3 Facts.h_S_ (ix3 (bOf r) (sOf r) g)
      = amax (gRow (shapeCast Cert.ReferenceIdeal.S12288x2560 x hx) r g) := by
  refine (Host.reduce_eq_fold_single _ _ _ Facts.reducesTo_S3x4096x20x128_S3x4096x20_d3 reduces Facts.h_S_ _).trans ?_
  refine Finset.fold_congr fun (k : Fin 128) _ => ?_
  show max (shapeCast S3x4096x20x128 _ _ (reduces.lift _ k)) (-(shapeCast S3x4096x20x128 _ _ (reduces.lift _ k))) = _
  rw [lift_at, place x hx]

/-- The comparisons on the largest magnitudes, as an array. -/
def chk (a : FVec Ideal S3x4096x20 .f32) : IVec S3x4096x20 1 :=
  ori (cmpf .oeq a (broadcastInDim S3x4096x20 ![] Facts.bcast_S_S3x4096x20 (constant S_ .f32 0x00000000#32 : FVec Ideal S_ .f32)))
    (andi (cmpf .oge (mulf a (broadcastInDim S3x4096x20 ![] Facts.bcast_S_S3x4096x20 (constant S_ .f32 0x3B124925#32 : FVec Ideal S_ .f32)))
        (broadcastInDim S3x4096x20 ![] Facts.bcast_S_S3x4096x20 (constant S_ .f32 0x00800000#32 : FVec Ideal S_ .f32)))
      (cmpf .ole a (broadcastInDim S3x4096x20 ![] Facts.bcast_S_S3x4096x20 (constant S_ .f32 0x7F7F0000#32 : FVec Ideal S_ .f32))))

theorem chk_at (a : FVec Ideal S3x4096x20 .f32) (i : S3x4096x20.Idx) :
    chk a i = IntOp.ori (Ideal.cmp .oeq (a i) (Ideal.ofBits .f32 0x00000000#32))
      (IntOp.andi (Ideal.cmp .oge ((a i : EReal) * Ideal.ofBits .f32 0x3B124925#32) (Ideal.ofBits .f32 0x00800000#32)) (Ideal.cmp .ole (a i) (Ideal.ofBits .f32 0x7F7F0000#32))) := rfl

theorem fn_eq (a1 : IVec S2560x2560 8) (a2 : FVec Ideal S20x5120 .f32) (a3 : FVec Ideal S5120 .f32) :
    fn (F := Ideal) x a1 a2 a3 = chk (Host.reduce (FloatOps.maximumf (F := Ideal) (φ := .f32))
      (Host.absf (shapeCast S3x4096x20x128 (extf .f32 x Facts.bitsLt_bf16_f32 : FVec Ideal S3x4096x2560 .f32) Facts.shapeCasts_S3x4096x2560_S3x4096x20x128))
      (constant S_ .f32 0xFF800000#32) Facts.reducesTo_S3x4096x20x128_S3x4096x20_d3 Facts.h_S_) := rfl

theorem inRange (a1 : IVec S2560x2560 8) (a2 : FVec Ideal S20x5120 .f32) (a3 : FVec Ideal S5120 .f32)
    (h : fn (F := Ideal) x a1 a2 a3 = fun _ => 1#1) (r : Fin 12288) (g : Fin 20) :
    InRange (amax (gRow (shapeCast Cert.ReferenceIdeal.S12288x2560 x hx) r g)) := by
  rw [← amax_at]
  exact holds_iff _ ((chk_at _ _).symm.trans (congrFun ((fn_eq x a1 a2 a3).symm.trans h) (ix3 (bOf r) (sOf r) g)))

end Cert.Pre_in_range

end
-- ==== Proof.Val.Tile.lean ====
/-
One group of activations over the extended reals: what the kernel's exponent, scale, inverse, codes and dequantised codes
are at a place, in the numbers of `Num`.
-/
module

public import proofs.«01_k».proof.Proof.Val.Spec
public import proofs.«01_k».proof.Proof.Val.Num
public import Idealize.ShloMosaic.PureOps.Ideal.Laws
public import Idealize.ShloMosaic.PureOps.Reduce
public import Idealize.ShloMosaic.Lib.Pipeline.Value

@[expose] public section

set_option maxRecDepth 16384

noncomputable section

namespace Cert.KernelIdeal.Val

open Idealize.ShloMosaic Idealize.ShloMosaic.TcCoe Idealize.ShloMosaic.ValueIdx
open Cert.KernelIdeal Cert.KernelIdeal.Gen Cert.Num

/-- A column of a piece spread over 128 lanes, at a place. -/
theorem spread128 {α : Type} (x : S128x1.Idx → α) (p q : Fin 128) :
    broadcastTo S128x128 (shapeCast S128x1 x shapeCasts_S128x1_S128x1) broadcasts_S128x1_S128x128 (ix2 p q) = x (ix2 p (0 : Fin 1)) := by
  rw [shapeCast_self]
  refine broadcastTo_apply _ _ _ _ fun a => ?_
  match a with
  | ⟨0, _⟩ => rfl
  | ⟨1, _⟩ => rfl

/-- A column of a piece spread over 256 lanes, at a place. -/
theorem spread256 {α : Type} (x : S128x1.Idx → α) (p : Fin 128) (q : Fin 256) :
    broadcastTo S128x256 (shapeCast S128x1 x shapeCasts_S128x1_S128x1) broadcasts_S128x1_S128x256 (ix2 p q) = x (ix2 p (0 : Fin 1)) := by
  rw [shapeCast_self]
  refine broadcastTo_apply _ _ _ _ fun a => ?_
  match a with
  | ⟨0, _⟩ => rfl
  | ⟨1, _⟩ => rfl

/-- A row sum's column form, at a place. -/
theorem col {α : Type} (x : S128.Idx → α) (p : Fin 128) : shapeCast S128x1 x shapeCasts_S128_S128x1 (ix2 p (0 : Fin 1)) = x (ix1 p) := by
  refine shapeCast_apply _ _ _ _ ?_
  rw [Shape.rowMajor_val_two, Shape.rowMajor_val_one]
  show p.val = p.val * 1 + 0
  omega

theorem lift128 (p k : Fin 128) : reduces_S128x128_S128.lift (ix1 p) k = ix2 p k := by
  funext a
  match a with
  | ⟨0, _⟩ => rfl
  | ⟨1, _⟩ => rfl

theorem lift256 (p : Fin 128) (k : Fin 256) : reduces_S128x256_S128.lift (ix1 p) k = ix2 p k := by
  funext a
  match a with
  | ⟨0, _⟩ => rfl
  | ⟨1, _⟩ => rfl

variable (v : Vec Ideal S128x128 .bf16)

/-- The row of a piece. -/
abbrev tRow (p : Fin 128) : Fin 128 → EReal := fun k => v (ix2 p k)

theorem amax_at (p : Fin 128) :
    multiReduction .maximumf [1] S128 (extf .f32 (absf (shapeCast S128x128 v shapeCasts_S128x128_S128x128)) bitsLt_bf16_f32 : FVec Ideal S128x128 .f32)
      0xFF800000#32 reduces_S128x128_S128 (.inl rfl) rfl (ix1 p) = amax (tRow v p) := by
  refine (Ideal.multiReduction_maximumf_single _ _ reduces_S128x128_S128 (.inl rfl) rfl (ix1 p)).trans ?_
  rw [shapeCast_self]
  refine Finset.fold_congr fun (k : Fin 128) _ => ?_
  show _ = max (v (ix2 p k)) (-(v (ix2 p k)))
  rw [← lift128 p k]
  rfl

theorem expo_at (p q : Fin 128) : expo v (ix2 p q) = fieldOf (over (tRow v p)) := by
  unfold expo
  dsimp only
  rw [spread128, col]
  refine (multiReductionI_eq_fold .maxsi _ _ reduces_S128x256_S128 rfl (ix1 p)).trans ?_
  refine (reduces_S128x256_S128.fold_filter_drop_single _ _ _ _).trans ?_
  refine Finset.fold_congr fun (k : Fin 256) _ => ?_
  show select _ _ _ (reduces_S128x256_S128.lift (ix1 p) k) = _
  rw [lift256 p k]
  show Scalar.select (Ideal.cmp .ole (Ideal.ofBits .f32 (IntOp.shli .vector (iota .tc S128x256 32 [1] iota_S128x256_d1_w32 (ix2 p k)) 23#32))
      (broadcastTo S128x256 _ _ (ix2 p k))) (IntOp.shli .vector (iota .tc S128x256 32 [1] iota_S128x256_d1_w32 (ix2 p k)) 23#32) 0#32 = _
  rw [iota_single_apply, spread256]
  show Scalar.select (Ideal.cmp .ole _ (shapeCast S128x1 _ shapeCasts_S128_S128x1 (ix2 p (0 : Fin 1)) * _)) _ _ = _
  rw [col, amax_at]
  rfl

theorem sclOf_at (p q : Fin 128) : sclOf v (ix2 p q) = kScl (fieldOf (over (tRow v p))) := by
  rw [← expo_at v p q]; rfl

theorem invOf_at (p q : Fin 128) : invOf v (ix2 p q) = kInv (fieldOf (over (tRow v p))) := by
  rw [← expo_at v p q]; rfl

theorem codOf_at (p q : Fin 128) : codOf v (ix2 p q) = clip (v (ix2 p q) * kInv (fieldOf (over (tRow v p)))) := by
  rw [← invOf_at v p q]
  unfold codOf
  rw [shapeCast_self]
  rfl

theorem scaled_at (c : FVec Ideal S128x128 .fp8e4m3) (s : FVec Ideal S128x128 .f32) (i : S128x128.Idx) :
    (mulf (extf .bf16 c bitsLt_fp8e4m3_bf16 : FVec Ideal S128x128 .bf16) (truncf .bf16 s bitsLt_bf16_f32)) i = (c i : EReal) * (s i : EReal) := rfl

theorem xdOf_at (p q : Fin 128) :
    xdOf v (ix2 p q) = clip (v (ix2 p q) * kInv (fieldOf (over (tRow v p)))) * kScl (fieldOf (over (tRow v p))) := by
  rw [← codOf_at v p q, ← sclOf_at v p q]
  unfold xdOf
  rw [shapeCast_self]
  exact scaled_at _ _ _

theorem putScl_at (n : ℕ) (hn : n < 128) (w : Vec Ideal S128x128 .bf16) (prev : FVec Ideal S128x128 .f32) (p q : Fin 128) :
    putScl (BitVec.ofNat 32 n) w prev (ix2 p q) = if q.val = n then sclOf w (ix2 p q) else prev (ix2 p q) := by
  show Scalar.select (IntOp.cmpi .eq (iota .tc S128x128 32 [1] iota_S128x128_d1_w32 (ix2 p q)) (BitVec.ofNat 32 n)) _ _ = _
  rw [iota_single_apply]
  show Scalar.select (BitVec.ofBool (BitVec.ofNat 32 q.val == BitVec.ofNat 32 n)) _ _ = _
  have hq := q.isLt
  by_cases h : q.val = n
  · subst h; simp [Scalar.select]
  · rw [if_neg h]
    have : (BitVec.ofNat 32 q.val == BitVec.ofNat 32 n) = false := by
      rw [beq_eq_false_iff_ne]
      intro e
      have := congrArg BitVec.toNat e
      rw [BitVec.toNat_ofNat, BitVec.toNat_ofNat] at this
      omega
    rw [this]; rfl

theorem sclRows_at (T : Fin 20 → Vec Ideal S128x128 .bf16) (p : Fin 128) (g : Fin 20) :
    sclRows T (ix2 p g) = kScl (fieldOf (over (tRow (T g) p))) := by
  unfold sclRows
  rw [extractStridedSlice_apply _ _ _ _ (ix2 p (⟨g.val, by omega⟩ : Fin 128)) (fun a => by
    match a with
    | ⟨0, _⟩ => show p.val = 0 + p.val; omega
    | ⟨1, _⟩ => show g.val = 0 + g.val; omega)]
  rw [← sclOf_at (T g) p ⟨g.val, by omega⟩]
  unfold sclLanes
  obtain ⟨k, hk⟩ := g
  interval_cases k <;>
  · repeat
      first
      | (rw [putScl_at _ (by decide), if_pos rfl]; done)
      | (rw [putScl_at _ (by decide), if_neg (by intro h; cases h)])

end Cert.KernelIdeal.Val

end
-- ==== Proof.Val.Nib.lean ====
/-
The two signed nibbles of a packed byte, and the two ways of taking them: by offset and by sign test.
-/
module

public import proofs.«01_k».proof.Proof.Val.Num
public import Idealize.ShloMosaic.PureOps
public import Idealize.ShloMosaic.Lib.ValueIdxCoords

@[expose] public section

set_option maxRecDepth 16384

noncomputable section

namespace Cert.Num

open Idealize.ShloMosaic Idealize.ShloMosaic.ValueIdx

/-- The signed low nibble of a byte. -/
def lo (b : BitVec 8) : ℤ := (b.setWidth 4).toInt
/-- The signed high nibble of a byte. -/
def hi (b : BitVec 8) : ℤ := ((b >>> 4).setWidth 4).toInt

/-- Taking a nibble by flipping its top bit and subtracting 8. -/
theorem lo_offset : ∀ b : BitVec 8, ((b &&& 15#8) ^^^ 8#8).toInt = lo b + 8 := by unfold lo; decide +kernel
theorem hi_offset : ∀ b : BitVec 8, (((b >>> 4) &&& 15#8) ^^^ 8#8).toInt = hi b + 8 := by unfold hi; decide +kernel

/-- Taking a nibble by testing whether it is 8 or more and subtracting 16. -/
theorem lo_test : ∀ b : BitVec 8, (Scalar.select (IntOp.cmpi .sge (IntOp.andi (IntOp.andi (b.setWidth 32) 255#32) 15#32) 8#32)
    (IntOp.subi (IntOp.andi (IntOp.andi (b.setWidth 32) 255#32) 15#32) 16#32) (IntOp.andi (IntOp.andi (b.setWidth 32) 255#32) 15#32)).toInt = lo b := by
  unfold lo; decide +kernel
theorem hi_test : ∀ b : BitVec 8, (Scalar.select (IntOp.cmpi .sge (IntOp.shrsi .vector (IntOp.andi (b.setWidth 32) 255#32) 4#32) 8#32)
    (IntOp.subi (IntOp.shrsi .vector (IntOp.andi (b.setWidth 32) 255#32) 4#32) 16#32) (IntOp.shrsi .vector (IntOp.andi (b.setWidth 32) 255#32) 4#32)).toInt = hi b := by
  unfold hi; decide +kernel

theorem eight_word : Ideal.ofBits .bf16 0x4100#16 = ((8 : ℝ) : EReal) := by
  simp [Ideal.ofBits, Ideal.ieee, -EReal.coe_mul]; norm_num

/-- An integer's offset taken off again. -/
theorem off_eight (n : ℤ) : (((n + 8 : ℤ) : ℝ) : EReal) - Ideal.ofBits .bf16 0x4100#16 = ((n : ℝ) : EReal) := by
  rw [eight_word, ← EReal.coe_sub]
  congr 1
  push_cast
  ring

/-- The weight in row `k` and column `q`: the low nibbles give the first half of the columns, the high nibbles the second,
each times the scale of its group of 128 rows. -/
def wVal (x1 : (⟨2, ![2560, 2560]⟩ : Shape).Idx → BitVec 8) (x2 : (⟨2, ![20, 5120]⟩ : Shape).Idx → EReal) (k : Fin 2560) (q : Fin 5120) : EReal :=
  (((if h : q.val < 2560 then lo (x1 (ix2 k (⟨q.val, h⟩ : Fin 2560)))
    else hi (x1 (ix2 k (⟨q.val - 2560, by have := q.isLt; omega⟩ : Fin 2560))) : ℤ) : ℝ) : EReal)
    * x2 (ix2 (⟨k.val / 128, by have := k.isLt; omega⟩ : Fin 20) q)

end Cert.Num

end
-- ==== Proof.Val.Weights.lean ====
/-
The kernel's dequantised weights over the extended reals: at each place the signed nibble of its byte times its scale.
-/
module

public import proofs.«01_k».proof.Proof.Val.Tile
public import proofs.«01_k».proof.Proof.Val.Nib
public import Idealize.ShloMosaic.Lib.BitcastFour
public import Idealize.ShloMosaic.Lib.MatmulPlain

@[expose] public section

set_option maxRecDepth 16384

noncomputable section

namespace Cert.KernelIdeal.Val

open Idealize.ShloMosaic Idealize.ShloMosaic.TcCoe Idealize.ShloMosaic.ValueIdx
open Cert.KernelIdeal Cert.KernelIdeal.Gen Cert.Num

/-- A bit of a byte read out of a word. -/
theorem byte_at (w : IVec S32x256 32) (p : Fin 128) (l : Fin 256) (q : ℕ) (hq : q < 8) :
    (bitcast S128x256 8 w bitcasts_S32x256_w32_S128x256_w8 (ix2 p l)).getLsbD q
      = (w (ix2 (⟨p.val / 4, by have := p.isLt; omega⟩ : Fin 32) l)).getLsbD (8 * (p.val % 4) + q) := by
  rw [bitcast_getLsbD w bitcasts_S32x256_w32_S128x256_w8 (ix2 p l) q hq (by decide)]
  have hr : S128x256.row (ix2 p l) = p.val := rfl
  refine congrArg₂ (fun (i : S32x256.Idx) n => (w i).getLsbD n) ?_ (by rw [hr]; omega)
  funext c
  match c with
  | ⟨0, _⟩ => exact Fin.ext ((Shape.Bitcasts.srcIdx_row _ _ _ _ ⟨0, Nat.zero_lt_two⟩ rfl).trans (by rw [hr]; show _ = p.val / 4; omega))
  | ⟨1, _⟩ => exact Fin.ext (Shape.Bitcasts.srcIdx_other _ _ _ _ ⟨1, Nat.one_lt_two⟩ (by decide))

/-- A bit of a word made of packed bytes. -/
theorem word_at (v : Vec Ideal S128x256 .i8) (p : Fin 128) (l : Fin 256) (q : ℕ) (hq : q < 8) :
    (words v (ix2 (⟨p.val / 4, by have := p.isLt; omega⟩ : Fin 32) l)).getLsbD (8 * (p.val % 4) + q) = (v (ix2 p l)).getLsbD q := by
  refine (bitcast_8_32_getLsbD_ix2 (R := 128) (r := 32) (n := 256) v bitcasts_S128x256_w8_S32x256_w32 _ l (8 * (p.val % 4) + q) (by omega) p (by
    show p.val = 4 * (p.val / 4) + (8 * (p.val % 4) + q) / 8; omega)).trans ?_
  congr 1
  omega

/-- The two constants of the unpacking repeat one byte. -/
theorem mask_bit (i q : ℕ) (hi : i < 4) (hq : q < 8) : (252645135#32).getLsbD (8 * i + q) = (15#8).getLsbD q := by
  interval_cases i <;> interval_cases q <;> rfl
theorem flip_bit (i q : ℕ) (hi : i < 4) (hq : q < 8) : (134744072#32).getLsbD (8 * i + q) = (8#8).getLsbD q := by
  interval_cases i <;> interval_cases q <;> rfl
theorem mask_low (q : ℕ) (hq : q < 8) (h : (15#8).getLsbD q = true) : q < 4 := by
  interval_cases q <;> first | omega | (exfalso; revert h; decide)

theorem lo_byte (v : Vec Ideal S128x256 .i8) (p : Fin 128) (l : Fin 256) :
    bitcast S128x256 8 (xori (andi (words v) (broadcast S32x256 252645135#32)) (broadcast S32x256 134744072#32)) bitcasts_S32x256_w32_S128x256_w8 (ix2 p l)
      = (v (ix2 p l) &&& 15#8) ^^^ 8#8 := by
  apply BitVec.eq_of_getLsbD_eq
  intro q hq
  rw [byte_at _ p l q hq]
  show ((words v _ &&& 252645135#32) ^^^ 134744072#32).getLsbD _ = _
  rw [BitVec.getLsbD_xor, BitVec.getLsbD_and, BitVec.getLsbD_xor, BitVec.getLsbD_and, word_at v p l q hq,
    mask_bit _ q (Nat.mod_lt _ (by decide)) hq, flip_bit _ q (Nat.mod_lt _ (by decide)) hq]

theorem hi_byte (v : Vec Ideal S128x256 .i8) (p : Fin 128) (l : Fin 256) :
    bitcast S128x256 8 (xori (andi (shrsi (words v) (broadcast S32x256 4#32)) (broadcast S32x256 252645135#32)) (broadcast S32x256 134744072#32)) bitcasts_S32x256_w32_S128x256_w8 (ix2 p l)
      = ((v (ix2 p l) >>> 4) &&& 15#8) ^^^ 8#8 := by
  apply BitVec.eq_of_getLsbD_eq
  intro q hq
  rw [byte_at _ p l q hq]
  show (((words v _).sshiftRight 4 &&& 252645135#32) ^^^ 134744072#32).getLsbD _ = _
  rw [BitVec.getLsbD_xor, BitVec.getLsbD_and, BitVec.getLsbD_xor, BitVec.getLsbD_and,
    mask_bit _ q (Nat.mod_lt _ (by decide)) hq, flip_bit _ q (Nat.mod_lt _ (by decide)) hq]
  congr 1
  cases h : (15#8).getLsbD q with
  | false => rw [Bool.and_false, Bool.and_false]
  | true =>
    have h4 := mask_low q hq h
    have hm : p.val % 4 < 4 := Nat.mod_lt _ (by decide)
    rw [Bool.and_true, Bool.and_true, BitVec.getLsbD_sshiftRight, BitVec.getLsbD_ushiftRight]
    rw [show 4 + (8 * (p.val % 4) + q) = 8 * (p.val % 4) + (4 + q) by omega, word_at v p l (4 + q) (by omega)]
    rw [if_pos (by omega), show decide (32 ≤ 8 * (p.val % 4) + q) = false by rw [decide_eq_false_iff_not]; omega]
    rfl

/-- A row of scales spread over a piece, at a place. -/
theorem spreadW (w : FVec Ideal S1x256 .bf16) (p : Fin 128) (l : Fin 256) :
    broadcastTo S128x256 w broadcasts_S1x256_S128x256 (ix2 p l) = w (ix2 (0 : Fin 1) l) := by
  refine broadcastTo_apply _ _ _ _ fun a => ?_
  match a with
  | ⟨0, _⟩ => rfl
  | ⟨1, _⟩ => rfl

theorem deq_at (b : IVec S32x256 32) (w : Vec Ideal S1x256 .f32) (p : Fin 128) (l : Fin 256) (n : ℤ)
    (h : (bitcast S128x256 8 b bitcasts_S32x256_w32_S128x256_w8 (ix2 p l)).toInt = n + 8) :
    deq b w (ix2 p l) = ((n : ℝ) : EReal) * w (ix2 (0 : Fin 1) l) := by
  unfold deq
  rw [shapeCast_self]
  show ((((bitcast S128x256 8 b bitcasts_S32x256_w32_S128x256_w8 (ix2 p l)).toInt : ℝ) : EReal) - Ideal.ofBits .bf16 0x4100#16)
    * broadcastTo S128x256 _ broadcasts_S1x256_S128x256 (ix2 p l) = _
  rw [h, off_eight, spreadW]
  rfl

theorem WD_at (x1 : Vec Ideal S2560x2560 .i8) (x2 : Vec Ideal S20x5120 .f32) (k : Fin 2560) (q : Fin 5120) :
    WD x1 x2 (ix2 k q) = wVal x1 x2 k q := by
  have hk := k.isLt
  have hq := q.isLt
  unfold WD wVal
  by_cases h : q.val < 2560
  · refine (dif_pos h).trans ?_
    rw [dif_pos h]
    refine (deq_at _ _ _ _ _ ((congrArg BitVec.toInt (lo_byte _ _ _)).trans (lo_offset _))).trans ?_
    refine congrArg₂ (fun (b : BitVec 8) (s : EReal) => ((lo b : ℝ) : EReal) * s) (congrArg x1 ?_) (congrArg x2 ?_)
    · exact congrArg₂ ix2 (Fin.ext (by show 128 * (k.val / 128) + k.val % 128 = k.val; omega)) (Fin.ext (by show 256 * (q.val / 256) + q.val % 256 = q.val; omega))
    · exact congrArg₂ ix2 rfl (Fin.ext (by show 256 * (q.val / 256) + q.val % 256 = q.val; omega))
  · refine (dif_neg h).trans ?_
    rw [dif_neg h]
    refine (deq_at _ _ _ _ _ ((congrArg BitVec.toInt (hi_byte _ _ _)).trans (hi_offset _))).trans ?_
    refine congrArg₂ (fun (b : BitVec 8) (s : EReal) => ((hi b : ℝ) : EReal) * s) (congrArg x1 ?_) (congrArg x2 ?_)
    · exact congrArg₂ ix2 (Fin.ext (by show 128 * (k.val / 128) + k.val % 128 = k.val; omega)) (Fin.ext (by show 256 * (q.val / 256 - 10) + q.val % 256 = q.val - 2560; omega))
    · exact congrArg₂ ix2 rfl (Fin.ext (by show 256 * (q.val / 256) + q.val % 256 = q.val; omega))

/-- The product block at a place. -/
theorem Y_at (xd : Vec Ideal S512x2560 .bf16) (wd : Vec Ideal S2560x5120 .bf16) (ws : Vec Ideal S1x5120 .f32) (p : Fin 512) (q : Fin 5120) :
    Y xd wd ws (ix2 p q) = (∑ k : Fin 2560, (xd (ix2 p k) : EReal) * wd (ix2 k q)) * ws (ix2 (0 : Fin 1) q) := by
  have e1 : (matmul (φ₁ := .bf16) (φ₂ := .bf16) dot_S512x2560_S2560x5120_S512x5120_1_0_0_1_n_n none xd wd (constant S512x5120 .f32 0x00000000#32) : FVec Ideal S512x5120 .f32) (ix2 p q)
      = ∑ k : Fin 2560, (xd (ix2 p k) : EReal) * wd (ix2 k q) := by
    refine (Ideal.matmul_plain_apply (M := 512) (K := 2560) (N := 5120) (φ₁ := .bf16) (φ₂ := .bf16) none xd wd (constant S512x5120 .f32 0x00000000#32) p q).trans ?_
    show Ideal.ofBits .f32 0x00000000#32 + _ = _
    rw [zero_word, zero_add]
  have e2 : broadcastTo S512x5120 (shapeCast S1x5120 ws shapeCasts_S1x5120_S1x5120) broadcasts_S1x5120_S512x5120 (ix2 p q) = ws (ix2 (0 : Fin 1) q) := by
    rw [shapeCast_self]
    refine broadcastTo_apply _ _ _ _ fun a => ?_
    match a with
    | ⟨0, _⟩ => rfl
    | ⟨1, _⟩ => rfl
  rw [← e1, ← e2]
  rfl

end Cert.KernelIdeal.Val

end
-- ==== Proof.Val.RefMul.lean ====
/-
The reference's product over the extended reals, at a place.
-/
module

public import proofs.«01_k».proof.Proof.Val.Ref
public import proofs.«01_k».proof.Proof.Val.Nib
public import Idealize.ShloMosaic.Lib.MatmulPlain

@[expose] public section

set_option maxRecDepth 16384

noncomputable section

namespace Cert.ReferenceIdeal.Val

open Idealize.ShloMosaic Idealize.ShloMosaic.TcCoe Idealize.ShloMosaic.ValueIdx
open Cert.ReferenceIdeal Cert.ReferenceIdeal.Gen Cert.Num

variable (X : Vec Ideal S12288x2560 .bf16) (x1 : Vec Ideal S2560x2560 .i8) (x2 : Vec Ideal S20x5120 .f32) (ws : Vec Ideal S1x5120 .f32)

/-- The dequantised activation in row `r` and column `k`. -/
def xVal (r : Fin 12288) (k : Fin 2560) : EReal :=
  clip (gRow X r (gOf k) (kOf k) * Ideal.exp2 (Ideal.ofBits .f32 0x00000000#32 - rExp (amax (gRow X r (gOf k)))))
    * Ideal.exp2 (rExp (amax (gRow X r (gOf k))))

/-- The product in row `r` and column `q`. -/
def yVal (r : Fin 12288) (q : Fin 5120) : EReal :=
  (∑ k : Fin 2560, xVal X r k * wVal x1 x2 k q) * ws (ix2 (0 : Fin 1) q)

theorem spreadB (x : FVec Ideal S12288x20 .bf16) (r : Fin 12288) (g : Fin 20) (k : Fin 128) :
    broadcastTo S12288x20x128 (shapeCast S12288x20x1 x shapeCasts_S12288x20_S12288x20x1) broadcasts_S12288x20x1_S12288x20x128 (ix3 r g k)
      = x (ix2 r g) := spread x r g k

/-- The dequantised activations, as the reference puts them together. -/
def xdAll : FVec Ideal S12288x2560 .bf16 :=
  shapeCast S12288x2560 (mulf (extf .bf16 (k0_pay5 X) bitsLt_fp8e4m3_bf16 : FVec Ideal S12288x20x128 .bf16)
    (broadcastTo S12288x20x128 (shapeCast S12288x20x1 (truncf .bf16 (k0_pay4 X) bitsLt_bf16_f32 : FVec Ideal S12288x20 .bf16) shapeCasts_S12288x20_S12288x20x1) broadcasts_S12288x20x1_S12288x20x128))
    shapeCasts_S12288x20x128_S12288x2560

theorem deq_at (c : FVec Ideal S12288x20x128 .fp8e4m3) (s : FVec Ideal S12288x20x128 .bf16) (i : S12288x20x128.Idx) :
    (mulf (extf .bf16 c bitsLt_fp8e4m3_bf16 : FVec Ideal S12288x20x128 .bf16) s) i = (c i : EReal) * s i := rfl

theorem narrow_at (x : FVec Ideal S12288x20 .f32) (i : S12288x20.Idx) :
    (truncf .bf16 x bitsLt_bf16_f32 : FVec Ideal S12288x20 .bf16) i = (x i : EReal) := rfl

theorem xdAll_at (r : Fin 12288) (k : Fin 2560) : xdAll X (ix2 r k) = xVal X r k := by
  unfold xdAll xVal
  rw [← pay5_at, ← pay4_at]
  refine (flat _ r k).trans ((deq_at _ _ _).trans ?_)
  exact congrArg₂ (fun a b : EReal => a * b) rfl ((spreadB _ r (gOf k) (kOf k)).trans (narrow_at _ _))

/-- The scales of one half of the columns spread over the rows of their groups, at a place. -/
theorem gs_at (x : FVec Ideal S20x2560 .bf16) (k y : Fin 2560) :
    shapeCast S2560x2560 (broadcastTo S20x128x2560 (shapeCast S20x1x2560 x shapeCasts_S20x2560_S20x1x2560) broadcasts_S20x1x2560_S20x128x2560)
      shapeCasts_S20x128x2560_S2560x2560 (ix2 k y) = x (ix2 (gOf k) y) := by
  rw [shapeCast_apply _ _ _ (ix3 (gOf k) (kOf k) y) (by
    rw [Shape.rowMajor_val_two, Shape.rowMajor_val_three]
    show (k.val / 128 * 128 + k.val % 128) * 2560 + y.val = k.val * 2560 + y.val
    omega)]
  rw [broadcastTo_apply _ _ _ (ix3 (gOf k) (0 : Fin 1) y) (fun a => by
    match a with
    | ⟨0, _⟩ => rfl
    | ⟨1, _⟩ => rfl
    | ⟨2, _⟩ => rfl)]
  refine shapeCast_apply _ _ _ _ ?_
  rw [Shape.rowMajor_val_two, Shape.rowMajor_val_three]
  show (k.val / 128) * 2560 + y.val = (k.val / 128 * 1 + 0) * 2560 + y.val
  omega

/-- One half of the weights: nibbles times scales. -/
def half (n : IVec S2560x2560 32) (x : FVec Ideal S20x2560 .bf16) : FVec Ideal S2560x2560 .bf16 :=
  mulf (sitofp .bf16 n) (shapeCast S2560x2560 (broadcastTo S20x128x2560 (shapeCast S20x1x2560 x shapeCasts_S20x2560_S20x1x2560) broadcasts_S20x1x2560_S20x128x2560)
      shapeCasts_S20x128x2560_S2560x2560)

theorem half_at (n : IVec S2560x2560 32) (x : FVec Ideal S20x2560 .bf16) (k y : Fin 2560) (z : ℤ) (h : (n (ix2 k y)).toInt = z) :
    half n x (ix2 k y) = ((z : ℝ) : EReal) * x (ix2 (gOf k) y) := by
  subst h
  exact congrArg₂ (fun a b : EReal => a * b) rfl (gs_at x k y)

/-- The signed nibble of a word that holds it. -/
def sgn (v : IVec S2560x2560 32) : IVec S2560x2560 32 :=
  select (cmpi .sge v (broadcast S2560x2560 8#32)) (subi v (broadcast S2560x2560 16#32)) v

theorem lo_sgn (k y : Fin 2560) : (sgn (k0_pay8 x1) (ix2 k y)).toInt = lo (x1 (ix2 k y)) := lo_test (x1 (ix2 k y))
theorem hi_sgn (k y : Fin 2560) : (sgn (shrsi (k0_pay7 x1) (broadcast S2560x2560 4#32)) (ix2 k y)).toInt = hi (x1 (ix2 k y)) := hi_test (x1 (ix2 k y))

def gsLo : FVec Ideal S20x2560 .bf16 := extractStridedSlice S20x2560 ![0, 0] (truncf .bf16 x2 bitsLt_bf16_f32 : FVec Ideal S20x5120 .bf16) slices_S20x5120_o0_0_S20x2560
def gsHi : FVec Ideal S20x2560 .bf16 := extractStridedSlice S20x2560 ![0, 2560] (truncf .bf16 x2 bitsLt_bf16_f32 : FVec Ideal S20x5120 .bf16) slices_S20x5120_o0_2560_S20x2560

/-- The product of the activations with one half of the weights. -/
def prod (w : FVec Ideal S2560x2560 .bf16) : FVec Ideal S12288x2560 .f32 :=
  matmul dot_S12288x2560_S2560x2560_S12288x2560_1_0_0_1_n_n none (xdAll X) w (constant S12288x2560 .f32 0x00000000#32)

theorem prod_at (w : FVec Ideal S2560x2560 .bf16) (r : Fin 12288) (y : Fin 2560) :
    prod X w (ix2 r y) = ∑ k : Fin 2560, (xVal X r k : EReal) * w (ix2 k y) := by
  unfold prod
  refine (Ideal.matmul_plain_apply (M := 12288) (K := 2560) (N := 2560) (φ₁ := .bf16) (φ₂ := .bf16) none (xdAll X) w (constant S12288x2560 .f32 0x00000000#32) r y).trans ?_
  show Ideal.ofBits .f32 0x00000000#32 + _ = _
  rw [zero_word, zero_add]
  exact Finset.sum_congr rfl fun k _ => by rw [xdAll_at]

/-- The last step: the two halves side by side, times the column scales. -/
theorem pay1_eq : k0_pay1 (k0_pay4 X) (k0_pay5 X) (k0_pay7 x1) (k0_pay8 x1) x2 ws
    = truncf .bf16 (mulf (concatenate S12288x5120 1
        [⟨S12288x2560, prod X (half (sgn (k0_pay8 x1)) (gsLo x2))⟩,
         ⟨S12288x2560, prod X (half (sgn (shrsi (k0_pay7 x1) (broadcast S2560x2560 4#32))) (gsHi x2))⟩]
        concatenates_S12288x2560_S12288x2560_S12288x5120_d1 : FVec Ideal S12288x5120 .f32)
      (broadcastTo S12288x5120 (shapeCast S1x5120 ws shapeCasts_S1x5120_S1x5120) broadcasts_S1x5120_S12288x5120)) bitsLt_bf16_f32 := rfl

theorem ws_at (r : Fin 12288) (q : Fin 5120) :
    broadcastTo S12288x5120 (shapeCast S1x5120 ws shapeCasts_S1x5120_S1x5120) broadcasts_S1x5120_S12288x5120 (ix2 r q) = ws (ix2 (0 : Fin 1) q) := by
  rw [shapeCast_self]
  refine broadcastTo_apply _ _ _ _ fun a => ?_
  match a with
  | ⟨0, _⟩ => rfl
  | ⟨1, _⟩ => rfl

theorem scale_at (u v : FVec Ideal S12288x5120 .f32) (i : S12288x5120.Idx) :
    (truncf .bf16 (mulf u v) bitsLt_bf16_f32 : FVec Ideal S12288x5120 .bf16) i = (u i : EReal) * v i := rfl

theorem pay1_at (r : Fin 12288) (q : Fin 5120) :
    k0_pay1 (k0_pay4 X) (k0_pay5 X) (k0_pay7 x1) (k0_pay8 x1) x2 ws (ix2 r q) = yVal X x1 x2 ws r q := by
  have hq := q.isLt
  rw [pay1_eq]
  refine (scale_at _ _ _).trans (congrArg₂ (fun a b : EReal => a * b) ?_ (ws_at ws r q))
  by_cases h : q.val < 2560
  · refine (concatenate_pair_apply_left (s₁ := S12288x2560) (s₂ := S12288x2560) _ _ _ _ (ix2 r q) rfl (ix2 r (⟨q.val, h⟩ : Fin 2560)) (fun b => by
      match b with
      | ⟨0, _⟩ => rfl
      | ⟨1, _⟩ => rfl)).trans ?_
    refine (prod_at X _ r ⟨q.val, h⟩).trans (Finset.sum_congr rfl fun k _ => congrArg₂ (fun a b : EReal => a * b) rfl ?_)
    refine (half_at _ _ k ⟨q.val, h⟩ _ (lo_sgn x1 k ⟨q.val, h⟩)).trans ?_
    unfold wVal
    rw [dif_pos h]
    refine congrArg₂ (fun a b : EReal => a * b) rfl ?_
    refine (extractStridedSlice_apply _ _ _ _ (ix2 (gOf k) q) (fun a => by
      match a with
      | ⟨0, _⟩ => show k.val / 128 = 0 + k.val / 128; omega
      | ⟨1, _⟩ => show q.val = 0 + q.val; omega)).trans rfl
  · refine (concatenate_pair_apply_right (s₁ := S12288x2560) (s₂ := S12288x2560) _ _ _ _ (ix2 r q) rfl rfl (ix2 r (⟨q.val - 2560, by omega⟩ : Fin 2560)) (fun b hb => by
      match b with
      | ⟨0, _⟩ => rfl
      | ⟨1, _⟩ => exact absurd rfl hb) (by show q.val - 2560 + 2560 = q.val; omega)).trans ?_
    refine (prod_at X _ r ⟨q.val - 2560, by omega⟩).trans (Finset.sum_congr rfl fun k _ => congrArg₂ (fun a b : EReal => a * b) rfl ?_)
    refine (half_at _ _ k ⟨q.val - 2560, by omega⟩ _ (hi_sgn x1 k ⟨q.val - 2560, by omega⟩)).trans ?_
    unfold wVal
    rw [dif_neg h]
    refine congrArg₂ (fun a b : EReal => a * b) rfl ?_
    refine (extractStridedSlice_apply _ _ _ _ (ix2 (gOf k) q) (fun a => by
      match a with
      | ⟨0, _⟩ => show k.val / 128 = 0 + k.val / 128; omega
      | ⟨1, _⟩ => show q.val = 2560 + (q.val - 2560); omega)).trans rfl

end Cert.ReferenceIdeal.Val

end
-- ==== Proof.Val.KerArr.lean ====
/-
The kernel's three result arrays over the extended reals, from its blocks, when every group's largest magnitude is in range.
-/
module

public import proofs.«01_k».proof.Proof.Val.Body
public import proofs.«01_k».proof.Proof.Val.Weights
public import proofs.«01_k».proof.Proof.Val.RefMul
public import Idealize.ShloMosaic.Lib.Pipeline.ValueKit

@[expose] public section

set_option maxRecDepth 16384

noncomputable section

namespace Cert.KernelIdeal.Val

open Idealize.ShloMosaic hiding ix1 ix2 ix3 ix4
open Idealize.ShloMosaic.TcCoe Idealize.ShloMosaic.ValueIdx Idealize.ShloMosaic.Tactic
open Cert.KernelIdeal Cert.KernelIdeal.Gen Cert.Num
open Cert.ReferenceIdeal.Val (gRow gOf kOf xVal yVal)

variable (m : (ℓ : Loc nD τ sig) → Buf (Elt Ideal) ℓ) (c : Dev nD)

/-! ## What the region finds -/

theorem V_main_v0 : V m c main_v0 = shapeCast S12288x2560 (m ((c : Thread nD τ).loc main_arg0)) shapeCasts_S3x4096x2560_S12288x2560 := by
  unfold_abbrev_sides
  after_results
  rfl
theorem V_main_v1 : V m c main_v1 = shapeCast S1x5120 (m ((c : Thread nD τ).loc main_arg3)) shapeCasts_S5120_S1x5120 := by
  unfold_abbrev_sides
  after_results
  rfl

/-- The activations, the packed weights, the weights' scales and the column scales as the region finds them. -/
abbrev XA : Vec Ideal S12288x2560 .bf16 := V m c main_v0
abbrev PA : Vec Ideal S2560x2560 .i8 := V m c main_arg1
abbrev GA : Vec Ideal S20x5120 .f32 := V m c main_arg2
abbrev SA : Vec Ideal S1x5120 .f32 := V m c main_v1

theorem e0 : ∀ t : Fin cfg0.N, win0_0.index t = ![min t.val 23, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val - 1, 0] := (by decide +kernel : ∀ t : Fin grid0.N, _)
theorem e5 : ∀ t : Fin cfg0.N, win0_5.index t = ![min t.val 23, 0] := (by decide +kernel : ∀ t : Fin grid0.N, _)
theorem e6 : ∀ t : Fin cfg0.N, win0_6.index t = ![min t.val 23, 0] := (by decide +kernel : ∀ t : Fin grid0.N, _)

/-- The row of the activations that row `p` of the block of point `t` is. -/
def rowAt (t : Fin cfg0.N) (p : Fin 512) : Fin 12288 := ⟨512 * min t.val 23 + p.val, by have := p.isLt; omega⟩

theorem xB_at (t : Fin cfg0.N) (p : Fin 512) (q : Fin 2560) : xB m c t (ix2 p q) = XA m c (ix2 (rowAt t p) q) := by
  show iblk m c 0 t (ix2 p q) = V m c main_v0 _
  blk_simp [iblk]
  refine congrArg (V m c main_v0) (idx_ext ?_ ?_)
  · blk_simp [e0]; show min t.val 23 * 512 + p.val = 512 * min t.val 23 + p.val; omega
  · blk_simp [e0]

theorem pB_eq (t : Fin cfg0.N) : pB m c t = PA m c := by
  funext y
  show iblk m c 1 t y = V m c main_arg1 y
  blk_simp [iblk]
  refine congrArg (V m c main_arg1) (idx_ext ?_ ?_) <;> blk_simp [e1]

theorem gB_eq (t : Fin cfg0.N) : gB m c t = GA m c := by
  funext y
  show iblk m c 2 t y = V m c main_arg2 y
  blk_simp [iblk]
  refine congrArg (V m c main_arg2) (idx_ext ?_ ?_) <;> blk_simp [e2]

theorem sB_eq (t : Fin cfg0.N) : sB m c t = SA m c := by
  funext y
  show iblk m c 3 t y = V m c main_v1 y
  blk_simp [iblk]
  refine congrArg (V m c main_v1) (idx_ext ?_ ?_) <;> blk_simp [e3]

/-! ## The blocks -/

theorem tile_at (t : Fin cfg0.N) (y : Fin 512) (g : Fin 20) (k : Fin 128) :
    tile (xB m c t) (rowChunk y) g (ix2 (rowIn y) k) = gRow (XA m c) (rowAt t y) g k := by
  refine (xB_at m c t _ _).trans (congrArg (XA m c) (congrArg₂ ix2 (Fin.ext ?_) rfl))
  show 512 * min t.val 23 + (128 * (y.val / 128) + y.val % 128) = 512 * min t.val 23 + y.val
  omega

theorem tRow_eq (t : Fin cfg0.N) (y : Fin 512) (g : Fin 20) : tRow (tile (xB m c t) (rowChunk y) g) (rowIn y) = gRow (XA m c) (rowAt t y) g :=
  funext fun k => tile_at m c t y g k

variable (hX : ∀ r g, InRange (amax (gRow (XA m c) r g)))
include hX

theorem scl_range (r : Fin 12288) (g : Fin 20) : kScl (fieldOf (over (gRow (XA m c) r g))) = Ideal.exp2 (rExp (amax (gRow (XA m c) r g))) :=
  scl_eq _ (hX r g)
theorem inv_range (r : Fin 12288) (g : Fin 20) :
    kInv (fieldOf (over (gRow (XA m c) r g))) = Ideal.exp2 (Ideal.ofBits .f32 0x00000000#32 - rExp (amax (gRow (XA m c) r g))) :=
  inv_eq _ (hX r g)

theorem codes_at (t : Fin cfg0.N) (p : Fin 512) (q : Fin 2560) :
    Codes (xB m c t) (ix2 p q) = Cert.ReferenceIdeal.Gen.k0_pay6 (XA m c) (ix2 (rowAt t p) q) := by
  rw [Cert.ReferenceIdeal.Val.pay6_at, ← inv_range m c hX, ← tRow_eq]
  exact codOf_at _ _ _

theorem xd_at (t : Fin cfg0.N) (p : Fin 512) (q : Fin 2560) : XD (xB m c t) (ix2 p q) = xVal (XA m c) (rowAt t p) q := by
  unfold xVal
  rw [← inv_range m c hX, ← scl_range m c hX, ← tRow_eq]
  exact xdOf_at _ _ _

theorem scl_block_at (t : Fin cfg0.N) (p : Fin 512) (g : Fin 20) :
    Scl (xB m c t) (ix2 p g) = Cert.ReferenceIdeal.Gen.k0_pay4 (XA m c) (ix2 (rowAt t p) g) := by
  rw [Cert.ReferenceIdeal.Val.pay4_at, ← scl_range m c hX, ← tRow_eq]
  exact sclRows_at _ _ _

theorem y_at (t : Fin cfg0.N) (p : Fin 512) (q : Fin 5120) :
    yB m c t (ix2 p q) = yVal (XA m c) (PA m c) (GA m c) (SA m c) (rowAt (prev t) p) q := by
  unfold yB yVal
  rw [Y_at, sB_eq]
  refine congrArg (fun a : EReal => a * SA m c (ix2 (0 : Fin 1) q)) (Finset.sum_congr rfl fun k _ => ?_)
  unfold wDeq
  rw [pB_eq, gB_eq, WD_at, xd_at m c hX]

/-! ## The arrays -/

/-- The product as an array. -/
def yAll (X : Vec Ideal S12288x2560 .bf16) (P : Vec Ideal S2560x2560 .i8) (G : Vec Ideal S20x5120 .f32) (S : Vec Ideal S1x5120 .f32) :
    Vec Ideal S12288x5120 .bf16 := fun i => yVal X P G S (i 0) (i 1)

theorem arr5 : (dats m 0 c).arrAt 5 cfg0.N = Cert.ReferenceIdeal.Gen.k0_pay6 (XA m c) := by
  refine (dats m 0 c).arrAt_eq_of_covers 5 _ (by decide +kernel) fun t hf y => ?_
  blk_simp
  rw [after0_5]
  refine ((congrArg (Codes (xB m c t)) (idx_ext (y := ix2 (y 0) (y 1)) rfl rfl)).trans (codes_at m c hX t (y 0) (y 1))).trans ?_
  refine congrArg (Cert.ReferenceIdeal.Gen.k0_pay6 (XA m c)) (idx_ext ?_ ?_)
  · blk_simp [e5]; show 512 * min t.val 23 + (y 0).val = min t.val 23 * 512 + (y 0).val; omega
  · blk_simp [e5]

theorem arr6 : (dats m 0 c).arrAt 6 cfg0.N = Cert.ReferenceIdeal.Gen.k0_pay4 (XA m c) := by
  refine (dats m 0 c).arrAt_eq_of_covers 6 _ (by decide +kernel) fun t hf y => ?_
  blk_simp
  rw [after0_6]
  refine ((congrArg (Scl (xB m c t)) (idx_ext (y := ix2 (y 0) (y 1)) rfl rfl)).trans (scl_block_at m c hX t (y 0) (y 1))).trans ?_
  refine congrArg (Cert.ReferenceIdeal.Gen.k0_pay4 (XA m c)) (idx_ext ?_ ?_)
  · blk_simp [e6]; show 512 * min t.val 23 + (y 0).val = min t.val 23 * 512 + (y 0).val; omega
  · blk_simp [e6]

theorem arr4 : (dats m 0 c).arrAt 4 cfg0.N = yAll (XA m c) (PA m c) (GA m c) (SA m c) := by
  refine (dats m 0 c).arrAt_eq_of_covers 4 _ (by decide +kernel) fun t hf y => ?_
  blk_simp
  rw [after0_4]
  refine ((congrArg (yB m c t) (idx_ext (y := ix2 (y 0) (y 1)) rfl rfl)).trans (y_at m c hX t (y 0) (y 1))).trans ?_
  have ht : t.val < 25 := Nat.lt_of_lt_of_eq t.isLt N_0
  refine congrArg₂ (yVal (XA m c) (PA m c) (GA m c) (SA m c)) (Fin.ext ?_) (Fin.ext ?_)
  · blk_simp [e4]; show 512 * min (t.val - 1) 23 + (y 0).val = (t.val - 1) * 512 + (y 0).val; omega
  · blk_simp [e4]

end Cert.KernelIdeal.Val

end
-- ==== Proof.Val.RefArr.lean ====
/-
The reference's three result arrays over the extended reals.
-/
module

public import proofs.«01_k».proof.Proof.Val.RefMul
public import Idealize.ShloMosaic.Lib.Pipeline.ValueKit

@[expose] public section

set_option maxRecDepth 16384

noncomputable section

namespace Cert.ReferenceIdeal.Val

open Idealize.ShloMosaic hiding ix1 ix2 ix3 ix4
open Idealize.ShloMosaic.TcCoe Idealize.ShloMosaic.ValueIdx Idealize.ShloMosaic.Tactic
open Cert.ReferenceIdeal Cert.ReferenceIdeal.Gen Cert.Num

variable (m : (ℓ : Loc nD τ sig) → Buf (Elt Ideal) ℓ) (c : Dev nD)

theorem V_main_v0 : V m c main_v0 = shapeCast S12288x2560 (m ((c : Thread nD τ).loc main_arg0)) shapeCasts_S3x4096x2560_S12288x2560 := by
  unfold_abbrev_sides
  after_results
  rfl
theorem V_main_v1 : V m c main_v1 = shapeCast S1x5120 (m ((c : Thread nD τ).loc main_arg3)) shapeCasts_S5120_S1x5120 := by
  unfold_abbrev_sides
  after_results
  rfl

/-- The activations, the packed weights, the weights' scales and the column scales as the region finds them. -/
abbrev XA : Vec Ideal S12288x2560 .bf16 := V m c main_v0
abbrev PA : Vec Ideal S2560x2560 .i8 := V m c main_arg1
abbrev GA : Vec Ideal S20x5120 .f32 := V m c main_arg2
abbrev SA : Vec Ideal S1x5120 .f32 := V m c main_v1

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

/-- Two places of a rank-2 array are equal when their coordinates are. -/
theorem idx_ext {a b : Nat} {x y : (⟨2, ![a, b]⟩ : Shape).Idx} (h0 : (x 0).val = (y 0).val) (h1 : (x 1).val = (y 1).val) : x = y := by
  funext k
  match k with
  | ⟨0, _⟩ => exact Fin.ext h0
  | ⟨1, _⟩ => exact Fin.ext h1

theorem blk0 (t : Fin cfg0.N) : iblk m c 0 t = XA m c := by
  funext y
  show iblk m c 0 t y = V m c main_v0 y
  blk_simp [iblk]
  refine congrArg (V m c main_v0) (idx_ext ?_ ?_) <;> blk_simp [e0]
theorem blk1 (t : Fin cfg0.N) : iblk m c 1 t = PA m c := by
  funext y
  show iblk m c 1 t y = V m c main_arg1 y
  blk_simp [iblk]
  refine congrArg (V m c main_arg1) (idx_ext ?_ ?_) <;> blk_simp [e1]
theorem blk2 (t : Fin cfg0.N) : iblk m c 2 t = GA m c := by
  funext y
  show iblk m c 2 t y = V m c main_arg2 y
  blk_simp [iblk]
  refine congrArg (V m c main_arg2) (idx_ext ?_ ?_) <;> blk_simp [e2]
theorem blk3 (t : Fin cfg0.N) : iblk m c 3 t = SA m c := by
  funext y
  show iblk m c 3 t y = V m c main_v1 y
  blk_simp [iblk]
  refine congrArg (V m c main_v1) (idx_ext ?_ ?_) <;> blk_simp [e3]

theorem zero2 : (![0, 0] : Fin 2 → Nat) = fun _ => 0 := by
  funext a
  match a with
  | ⟨0, _⟩ => rfl
  | ⟨1, _⟩ => rfl

theorem out4 (X : Vec Ideal S12288x2560 .bf16) (x1 : Vec Ideal S2560x2560 .i8) (x2 : Vec Ideal S20x5120 .f32) (ws : Vec Ideal S1x5120 .f32) :
    out0_4 X x1 x2 ws = k0_pay1 (k0_pay4 X) (k0_pay5 X) (k0_pay7 x1) (k0_pay8 x1) x2 ws := by
  have a0 : View.ld X r0_0 = X := View.ld_unit_zero zero2 _ X
  have a1 : View.ld x1 r0_2 = x1 := View.ld_unit_zero zero2 _ x1
  have a2 : View.ld x2 r0_3 = x2 := View.ld_unit_zero zero2 _ x2
  have a3 : View.ld ws r0_4 = ws := View.ld_unit_zero zero2 _ ws
  unfold out0_4
  rw [a0, a1, a2, a3]
  exact View.canon_unit_zero zero2 _ _
theorem out5 (X : Vec Ideal S12288x2560 .bf16) (x1 : Vec Ideal S2560x2560 .i8) (x2 : Vec Ideal S20x5120 .f32) (ws : Vec Ideal S1x5120 .f32) :
    out0_5 X x1 x2 ws = k0_pay6 X := by
  have a0 : View.ld X r0_0 = X := View.ld_unit_zero zero2 _ X
  unfold out0_5
  rw [a0]
  exact View.canon_unit_zero zero2 _ _
theorem out6 (X : Vec Ideal S12288x2560 .bf16) (x1 : Vec Ideal S2560x2560 .i8) (x2 : Vec Ideal S20x5120 .f32) (ws : Vec Ideal S1x5120 .f32) :
    out0_6 X x1 x2 ws = k0_pay4 X := by
  have a0 : View.ld X r0_0 = X := View.ld_unit_zero zero2 _ X
  unfold out0_6
  rw [a0]
  exact View.canon_unit_zero zero2 _ _

/-! ## The arrays -/

theorem arr5 : (dats m 0 c).arrAt 5 cfg0.N = k0_pay6 (XA m c) := by
  refine (dats m 0 c).arrAt_eq_of_covers 5 _ (by decide +kernel) fun t hf y => ?_
  blk_simp
  rw [after0_5, blk0, blk1, blk2, blk3, out5]
  refine congrArg (k0_pay6 (XA m c)) (idx_ext ?_ ?_) <;> blk_simp [e5] <;> rfl

theorem arr6 : (dats m 0 c).arrAt 6 cfg0.N = k0_pay4 (XA m c) := by
  refine (dats m 0 c).arrAt_eq_of_covers 6 _ (by decide +kernel) fun t hf y => ?_
  blk_simp
  rw [after0_6, blk0, blk1, blk2, blk3, out6]
  refine congrArg (k0_pay4 (XA m c)) (idx_ext ?_ ?_) <;> blk_simp [e6] <;> rfl

theorem arr4 : (dats m 0 c).arrAt 4 cfg0.N = fun i => yVal (XA m c) (PA m c) (GA m c) (SA m c) (i 0) (i 1) := by
  refine (dats m 0 c).arrAt_eq_of_covers 4 _ (by decide +kernel) fun t hf y => ?_
  blk_simp
  rw [after0_4, blk0, blk1, blk2, blk3, out4]
  refine ((congrArg (k0_pay1 _ _ _ _ _ _) (idx_ext (x := y) (y := ix2 (y 0) (y 1)) rfl rfl)).trans (pay1_at (XA m c) (PA m c) (GA m c) (SA m c) (y 0) (y 1))).trans ?_
  refine congrArg₂ (yVal (XA m c) (PA m c) (GA m c) (SA m c)) (Fin.ext ?_) (Fin.ext ?_) <;> blk_simp [e4] <;> rfl

end Cert.ReferenceIdeal.Val

end
-- ==== Proof.lean ====
/-
The certificate's claim, from its parts.
-/
module

public import proofs.«01_k».proof.Defs
public import proofs.«01_k».proof.Proof.Gen.Kernel.Frame
public import proofs.«01_k».proof.Proof.Gen.ReferenceIdeal.Value
public import proofs.«01_k».proof.Proof.Val.Body
public import proofs.«01_k».proof.Proof.Val.Transfer
public import proofs.«01_k».proof.Proof.Val.Pre
public import proofs.«01_k».proof.Proof.Val.KerArr
public import proofs.«01_k».proof.Proof.Val.RefArr

@[expose] public section

open Idealize.ShloMosaic Idealize.ShloMosaic.TcCoe

theorem Cert.Proof.kernel_frame : Cert.quiescent_Kernel :=
  fun m g _ => Cert.KernelIdeal.Val.run_same m g _ (Cert.KernelIdeal.Val.frame m g)

theorem Cert.Proof.kernelIdeal_frame : Cert.quiescent_KernelIdeal :=
  fun m g _ => Cert.KernelIdeal.Val.frame m g

theorem Cert.Proof.kernelIdeal_frame_in_range : Cert.quiescent_KernelIdeal_pre_in_range :=
  fun m g _ => Cert.KernelIdeal.Val.frame m g

theorem Cert.Proof.referenceIdeal_frame : Cert.quiescent_ReferenceIdeal :=
  fun m g _ => Cert.ReferenceIdeal.Gen.frame m g

theorem Cert.Proof.referenceIdeal_frame_in_range : Cert.quiescent_ReferenceIdeal_pre_in_range :=
  fun m g _ => Cert.ReferenceIdeal.Gen.frame m g

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The activations as the kernel's region finds them: every group's largest magnitude is in range. -/
theorem Cert.Proof.range (h : Cert.Pre_KernelIdeal_in_range m) (c : Dev Cert.KernelIdeal.nD) (r : Fin 12288) (g : Fin 20) :
    Cert.Num.InRange (Cert.Num.amax (Cert.ReferenceIdeal.Val.gRow (Cert.KernelIdeal.Val.XA m c) r g)) := by
  have e : Cert.KernelIdeal.Val.XA m c = _ := Cert.KernelIdeal.Val.V_main_v0 m c
  rw [e]
  exact Cert.Pre_in_range.inRange _ _ _ _ _ (h c) r g

variable (c : Dev Cert.KernelIdeal.nD)

/-- Equal arguments: the two regions find equal activations, … -/
theorem Cert.Proof.XA_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.XA m' c = Cert.KernelIdeal.Val.XA m c :=
  (Cert.ReferenceIdeal.Val.V_main_v0 m' c).trans
    ((congrArg (fun x => shapeCast Cert.ReferenceIdeal.S12288x2560 x Cert.ReferenceIdeal.Gen.shapeCasts_S3x4096x2560_S12288x2560) h).trans
      (Cert.KernelIdeal.Val.V_main_v0 m c).symm)
/-- … equal packed weights, … -/
theorem Cert.Proof.PA_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Val.PA m' c = Cert.KernelIdeal.Val.PA m c :=
  (Cert.ReferenceIdeal.Gen.V_main_arg1 m' c).trans (h.trans (Cert.KernelIdeal.Gen.V_main_arg1 m c).symm)
/-- … equal weight scales … -/
theorem Cert.Proof.GA_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.GA m' c = Cert.KernelIdeal.Val.GA m c :=
  (Cert.ReferenceIdeal.Gen.V_main_arg2 m' c).trans (h.trans (Cert.KernelIdeal.Gen.V_main_arg2 m c).symm)
/-- … and equal column scales. -/
theorem Cert.Proof.SA_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Val.SA m' c = Cert.KernelIdeal.Val.SA m c :=
  (Cert.ReferenceIdeal.Val.V_main_v1 m' c).trans
    ((congrArg (fun x => shapeCast Cert.ReferenceIdeal.S1x5120 x Cert.ReferenceIdeal.Gen.shapeCasts_S5120_S1x5120) h).trans
      (Cert.KernelIdeal.Val.V_main_v1 m c).symm)

end

/-- The kernel and the reference end with the same three results. -/
theorem Cert.Proof.algebraic : Cert.algebraic_KernelIdeal_ReferenceIdeal_pre_in_range := by
  intro m g m' g' hpre hargs
  have hX := Cert.Proof.range m hpre
  refine ⟨fun c => Cert.KernelIdeal.Val.yAll (Cert.KernelIdeal.Val.XA m c) (Cert.KernelIdeal.Val.PA m c) (Cert.KernelIdeal.Val.GA m c) (Cert.KernelIdeal.Val.SA m c),
    fun c => Cert.ReferenceIdeal.Gen.k0_pay6 (Cert.KernelIdeal.Val.XA m c), fun c => Cert.ReferenceIdeal.Gen.k0_pay4 (Cert.KernelIdeal.Val.XA m c), ?_, ?_⟩
  · refine (θ_run _ _ _).mono (fun r h c => ?_) (Cert.KernelIdeal.Val.run_main m g)
    exact ⟨((h c).1 4).trans (Cert.KernelIdeal.Val.arr4 m c (hX c)),
      ((h c).1 5).trans (Cert.KernelIdeal.Val.arr5 m c (hX c)),
      ((h c).1 6).trans (Cert.KernelIdeal.Val.arr6 m c (hX c)),
      ((h c).2 Cert.KernelIdeal.main_arg0 (Pipeline.mem_restRefs_of Cert.KernelIdeal.main_arg0 (by decide) (by decide))).trans (Cert.KernelIdeal.Gen.V_main_arg0 m c),
      ((h c).1 1).trans (((Cert.KernelIdeal.Val.dats m 0 c).arrAt_in 1 rfl _).trans ((Cert.KernelIdeal.Val.A_eq m c 1).trans (Cert.KernelIdeal.Gen.V_main_arg1 m c))),
      ((h c).1 2).trans (((Cert.KernelIdeal.Val.dats m 0 c).arrAt_in 2 rfl _).trans ((Cert.KernelIdeal.Val.A_eq m c 2).trans (Cert.KernelIdeal.Gen.V_main_arg2 m c))),
      ((h c).2 Cert.KernelIdeal.main_arg3 (Pipeline.mem_restRefs_of Cert.KernelIdeal.main_arg3 (by decide) (by decide))).trans (Cert.KernelIdeal.Gen.V_main_arg3 m c)⟩
  · refine (θ_run _ _ _).mono (fun r h c => ?_) (Cert.ReferenceIdeal.Value.run_blocks m' g')
    obtain ⟨h4, h5, h6, ha⟩ := h c
    obtain ⟨a0, a1, a2, a3⟩ := hargs c
    refine ⟨h4.trans ((Cert.ReferenceIdeal.Val.arr4 m' c).trans ?_), h5.trans ((Cert.ReferenceIdeal.Val.arr5 m' c).trans ?_),
      h6.trans ((Cert.ReferenceIdeal.Val.arr6 m' c).trans ?_), ha⟩
    · rw [Cert.Proof.XA_eq m m' c a0, Cert.Proof.PA_eq m m' c a1, Cert.Proof.GA_eq m m' c a2, Cert.Proof.SA_eq m m' c a3]; rfl
    · exact congrArg Cert.ReferenceIdeal.Gen.k0_pay6 (Cert.Proof.XA_eq m m' c a0)
    · exact congrArg Cert.ReferenceIdeal.Gen.k0_pay4 (Cert.Proof.XA_eq m m' c a0)

theorem Cert.Proof.claim : Cert.Claim :=
  ⟨inferInstance, inferInstance, inferInstance, inferInstance, Cert.Proof.kernel_frame, Cert.Proof.kernelIdeal_frame, Cert.Proof.kernelIdeal_frame_in_range,
    Cert.Proof.referenceIdeal_frame, Cert.Proof.referenceIdeal_frame_in_range, trivial, Cert.Proof.algebraic⟩
